-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain_inputs [hPre_plain_inputs : Cert.Pre_plain_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_plain_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_plain_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_plain_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain_inputs [hPre_plain_inputs : Cert.Pre_plain_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_plain_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_plain_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_plain_inputs [hKernelIdeal : Cert.KernelIdeal.Facts] [hPre_plain_inputs : Cert.Pre_plain_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_plain_inputs [hReferenceIdeal : Cert.ReferenceIdeal.Facts] [hPre_plain_inputs : Cert.Pre_plain_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_sigma" .f32 0x3F4CCCCD#32 ((4 / 5 : ℝ) : EReal)
  ∧ IdealRules.named_const.Statement Cert.KernelIdeal.κ "lin1" .f32 0x40088889#32 ((32 / 15 : ℝ) : EReal)
  ∧ IdealRules.named_const.Statement Cert.KernelIdeal.κ "sq1" .f32 0x3F91A2B4#32 ((256 / 225 : ℝ) : EReal)
  ∧ IdealRules.named_const.Statement Cert.KernelIdeal.κ "lin2" .f32 0x40888889#32 ((64 / 15 : ℝ) : EReal)
  ∧ IdealRules.named_const.Statement Cert.KernelIdeal.κ "sq2" .f32 0x4091A2B4#32 ((1024 / 225 : ℝ) : EReal)
  ∧ IdealRules.named_const.Statement Cert.KernelIdeal.κ "lin3" .f32 0x40CCCCCD#32 ((32 / 5 : ℝ) : EReal)
  ∧ IdealRules.named_const.Statement Cert.KernelIdeal.κ "sq3" .f32 0x4123D70A#32 ((256 / 25 : ℝ) : EReal)
  ∧ IdealRules.named_const.Statement Cert.KernelIdeal.κ "lin4" .f32 0x41088889#32 ((128 / 15 : ℝ) : EReal)
  ∧ IdealRules.named_const.Statement Cert.KernelIdeal.κ "sq4" .f32 0x4191A2B4#32 ((4096 / 225 : ℝ) : EReal)
  ∧ IdealRules.named_const.Statement Cert.KernelIdeal.κ "lin5" .f32 0x412AAAAB#32 ((32 / 3 : ℝ) : EReal)
  ∧ IdealRules.named_const.Statement Cert.KernelIdeal.κ "sq5" .f32 0x41E38E39#32 ((256 / 9 : ℝ) : EReal)
  ∧ IdealRules.named_const.Statement Cert.KernelIdeal.κ "lin6" .f32 0x414CCCCD#32 ((64 / 5 : ℝ) : EReal)
  ∧ IdealRules.named_const.Statement Cert.KernelIdeal.κ "sq6" .f32 0x4223D70A#32 ((1024 / 25 : ℝ) : EReal)
  ∧ IdealRules.named_const.Statement Cert.KernelIdeal.κ "lin7" .f32 0x416EEEEF#32 ((224 / 15 : ℝ) : EReal)
  ∧ IdealRules.named_const.Statement Cert.KernelIdeal.κ "sq7" .f32 0x425F0123#32 ((12544 / 225 : ℝ) : EReal)
  ∧ IdealRules.named_const.Statement Cert.KernelIdeal.κ "lin8" .f32 0x41888889#32 ((256 / 15 : ℝ) : EReal)
  ∧ IdealRules.named_const.Statement Cert.KernelIdeal.κ "sq8" .f32 0x4291A2B4#32 ((16384 / 225 : ℝ) : EReal)
  ∧ IdealRules.named_const.Statement Cert.KernelIdeal.κ "lin9" .f32 0x4199999A#32 ((96 / 5 : ℝ) : EReal)
  ∧ IdealRules.named_const.Statement Cert.KernelIdeal.κ "sq9" .f32 0x42B851EC#32 ((2304 / 25 : ℝ) : EReal)
  ∧ IdealRules.named_const.Statement Cert.KernelIdeal.κ "lin10" .f32 0x41AAAAAB#32 ((64 / 3 : ℝ) : EReal)
  ∧ IdealRules.named_const.Statement Cert.KernelIdeal.κ "sq10" .f32 0x42E38E39#32 ((1024 / 9 : ℝ) : EReal)
  ∧ IdealRules.named_const.Statement Cert.KernelIdeal.κ "lin11" .f32 0x41BBBBBC#32 ((352 / 15 : ℝ) : EReal)
  ∧ IdealRules.named_const.Statement Cert.KernelIdeal.κ "sq11" .f32 0x4309ABCE#32 ((30976 / 225 : ℝ) : EReal)
  ∧ IdealRules.named_const.Statement Cert.KernelIdeal.κ "lin12" .f32 0x41CCCCCD#32 ((128 / 5 : ℝ) : EReal)
  ∧ IdealRules.named_const.Statement Cert.KernelIdeal.κ "sq12" .f32 0x4323D70A#32 ((4096 / 25 : ℝ) : EReal)
  ∧ IdealRules.named_const.Statement Cert.KernelIdeal.κ "lin13" .f32 0x41DDDDDE#32 ((416 / 15 : ℝ) : EReal)
  ∧ IdealRules.named_const.Statement Cert.KernelIdeal.κ "sq13" .f32 0x434048D1#32 ((43264 / 225 : ℝ) : EReal)
  ∧ IdealRules.named_const.Statement Cert.KernelIdeal.κ "lin14" .f32 0x41EEEEEF#32 ((448 / 15 : ℝ) : EReal)
  ∧ IdealRules.named_const.Statement Cert.KernelIdeal.κ "sq14" .f32 0x435F0123#32 ((50176 / 225 : ℝ) : EReal)

def algebraic_KernelIdeal_ReferenceIdeal_pre_plain_inputs [hKernelIdeal : Cert.KernelIdeal.Facts] [hReferenceIdeal : Cert.ReferenceIdeal.Facts] [hPre_plain_inputs : Cert.Pre_plain_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_plain_inputs : Cert.Pre_plain_inputs.Facts),
    quiescent_Kernel (hKernel := hKernel)
    ∧ quiescent_KernelIdeal (hKernelIdeal := hKernelIdeal)
    ∧ quiescent_KernelIdeal_pre_plain_inputs (hKernelIdeal := hKernelIdeal) (hPre_plain_inputs := hPre_plain_inputs)
    ∧ quiescent_ReferenceIdeal (hReferenceIdeal := hReferenceIdeal)
    ∧ quiescent_ReferenceIdeal_pre_plain_inputs (hReferenceIdeal := hReferenceIdeal) (hPre_plain_inputs := hPre_plain_inputs)
    ∧ preserves_Kernel_KernelIdeal
    ∧ algebraic_KernelIdeal_ReferenceIdeal_pre_plain_inputs (hKernelIdeal := hKernelIdeal) (hReferenceIdeal := hReferenceIdeal) (hPre_plain_inputs := hPre_plain_inputs)
-- ==== Pre_plain_inputs.lean ====
abbrev S2x512x14x3 : Shape := ⟨4, ![2, 512, 14, 3]⟩
abbrev S2x512 : Shape := ⟨2, ![2, 512]⟩
abbrev S2x512x14 : Shape := ⟨3, ![2, 512, 14]⟩
abbrev S128x3152 : Shape := ⟨2, ![128, 3152]⟩
abbrev S128 : Shape := ⟨1, ![128]⟩
abbrev S_ : Shape := ⟨0, ![]⟩

class Facts : Prop where
  bcast_S_S2x512x14x3 : S_.BroadcastsInDim S2x512x14x3 (![] : Fin 0 → Fin S2x512x14x3.rank)
  bcast_S_S2x512 : S_.BroadcastsInDim S2x512 (![] : Fin 0 → Fin S2x512.rank)
  bcast_S_S2x512x14 : S_.BroadcastsInDim S2x512x14 (![] : Fin 0 → Fin S2x512x14.rank)

variable [Facts]

def fn {F : FTy → Type} [FloatOps F] (main_arg0 : FVec F S2x512x14x3 .f32) (main_arg1 : FVec F S2x512 .f32) (main_arg2 : FVec F S2x512x14 .f32) (main_arg3 : FVec F S128x3152 .f32) (main_arg4 : FVec F S128 .f32) (main_arg5 : FVec F S128 .f32) : IVec S2x512x14x3 1 × IVec S2x512 1 × IVec S2x512x14 1 :=
  let main_v0 : FVec F S2x512x14x3 .f32 := Host.absf main_arg0
  let main_cst : FVec F S_ .f32 := constant S_ .f32 0x7F800000#32
  let main_v1 : FVec F S2x512x14x3 .f32 := broadcastInDim S2x512x14x3 ![] bcast_S_S2x512x14x3 main_cst
  let main_v2 : IVec S2x512x14x3 1 := cmpf .olt main_v0 main_v1
  let main_cst_0 : FVec F S_ .f32 := constant S_ .f32 0x3F800000#32
  let main_v3 : FVec F S2x512 .f32 := broadcastInDim S2x512 ![] bcast_S_S2x512 main_cst_0
  let main_v4 : IVec S2x512 1 := cmpf .oeq main_arg1 main_v3
  let main_cst_1 : FVec F S_ .f32 := constant S_ .f32 0x3F800000#32
  let main_v5 : FVec F S2x512x14 .f32 := broadcastInDim S2x512x14 ![] bcast_S_S2x512x14 main_cst_1
  let main_v6 : IVec S2x512x14 1 := cmpf .oeq main_arg2 main_v5
  (main_v2, main_v4, main_v6)
-- ==== Kernel.lean ====
abbrev S2x512x14x3 : Shape := ⟨4, ![2, 512, 14, 3]⟩
abbrev S2x512 : Shape := ⟨2, ![2, 512]⟩
abbrev S2x512x14 : Shape := ⟨3, ![2, 512, 14]⟩
abbrev S128x3152 : Shape := ⟨2, ![128, 3152]⟩
abbrev S128 : Shape := ⟨1, ![128]⟩
abbrev S14x196 : Shape := ⟨2, ![14, 196]⟩
abbrev S2x3x512x14 : Shape := ⟨4, ![2, 3, 512, 14]⟩
abbrev S2x3x512x1 : Shape := ⟨4, ![2, 3, 512, 1]⟩
abbrev S2x3x512 : Shape := ⟨3, ![2, 3, 512]⟩
abbrev S2x512x3x14 : Shape := ⟨4, ![2, 512, 3, 14]⟩
abbrev S_ : Shape := ⟨0, ![]⟩
abbrev S2x512x3x16 : Shape := ⟨4, ![2, 512, 3, 16]⟩
abbrev S2x512x48 : Shape := ⟨3, ![2, 512, 48]⟩
abbrev S8 : Shape := ⟨1, ![8]⟩
abbrev S512 : Shape := ⟨1, ![512]⟩
abbrev S512x1 : Shape := ⟨2, ![512, 1]⟩
abbrev S1x8 : Shape := ⟨2, ![1, 8]⟩
abbrev S512x8 : Shape := ⟨2, ![512, 8]⟩
abbrev S512x16 : Shape := ⟨2, ![512, 16]⟩
abbrev S512x32 : Shape := ⟨2, ![512, 32]⟩
abbrev S1x512x32 : Shape := ⟨3, ![1, 512, 32]⟩
abbrev S2x512x32 : Shape := ⟨3, ![2, 512, 32]⟩
abbrev S2x512x80 : Shape := ⟨3, ![2, 512, 80]⟩
abbrev S128x16 : Shape := ⟨2, ![128, 16]⟩
abbrev S16x128 : Shape := ⟨2, ![16, 128]⟩
abbrev S128x3136 : Shape := ⟨2, ![128, 3136]⟩
abbrev S3136x128 : Shape := ⟨2, ![3136, 128]⟩
abbrev S196x16x128 : Shape := ⟨3, ![196, 16, 128]⟩
abbrev S16x196x128 : Shape := ⟨3, ![16, 196, 128]⟩
abbrev S1x128 : Shape := ⟨2, ![1, 128]⟩
abbrev S2x30x512x128 : Shape := ⟨4, ![2, 30, 512, 128]⟩
abbrev S2x512x30 : Shape := ⟨3, ![2, 512, 30]⟩
abbrev S2x512x30x128 : Shape := ⟨4, ![2, 512, 30, 128]⟩
abbrev S1x3x512 : Shape := ⟨3, ![1, 3, 512]⟩
abbrev S1x3x512x14 : Shape := ⟨4, ![1, 3, 512, 14]⟩
abbrev S1x512x80 : Shape := ⟨3, ![1, 512, 80]⟩
abbrev S64x32 : Shape := ⟨2, ![64, 32]⟩
abbrev S1x30x64x128 : Shape := ⟨4, ![1, 30, 64, 128]⟩
abbrev S1x64x30 : Shape := ⟨3, ![1, 64, 30]⟩
abbrev S1920x512 : Shape := ⟨2, ![1920, 512]⟩
abbrev S1x1x512 : Shape := ⟨3, ![1, 1, 512]⟩
abbrev S1x512 : Shape := ⟨2, ![1, 512]⟩
abbrev S1x1x64x1 : Shape := ⟨4, ![1, 1, 64, 1]⟩
abbrev S64x1 : Shape := ⟨2, ![64, 1]⟩
abbrev S64x512 : Shape := ⟨2, ![64, 512]⟩
abbrev S64 : Shape := ⟨1, ![64]⟩
abbrev S64x30 : Shape := ⟨2, ![64, 30]⟩
abbrev S512x80 : Shape := ⟨2, ![512, 80]⟩
abbrev S1920x80 : Shape := ⟨2, ![1920, 80]⟩
abbrev S64x16 : Shape := ⟨2, ![64, 16]⟩
abbrev S1920x16 : Shape := ⟨2, ![1920, 16]⟩
abbrev S1x1x64x14 : Shape := ⟨4, ![1, 1, 64, 14]⟩
abbrev S64x14 : Shape := ⟨2, ![64, 14]⟩
abbrev S1920x14 : Shape := ⟨2, ![1920, 14]⟩
abbrev S1920x196 : Shape := ⟨2, ![1920, 196]⟩
abbrev S64x196 : Shape := ⟨2, ![64, 196]⟩
abbrev S1920x128 : Shape := ⟨2, ![1920, 128]⟩
abbrev S1x196x128 : Shape := ⟨3, ![1, 196, 128]⟩
abbrev S196x128 : Shape := ⟨2, ![196, 128]⟩
abbrev S1920 : Shape := ⟨1, ![1920]⟩
abbrev S1920x1 : Shape := ⟨2, ![1920, 1]⟩
abbrev S30x64x128 : Shape := ⟨3, ![30, 64, 128]⟩

abbrev nBuf : Space → Nat
  | .hbm => 57
  | .vmem => 18
  | .smem => 0
  | _ => 0

abbrev bufTy : (tb : Table) → Fin (tcTables nBuf tb) → BufTy
  | .hbm, ⟨0, _⟩ => ⟨S2x512x14x3, .f32⟩
  | .hbm, ⟨1, _⟩ => ⟨S2x512, .f32⟩
  | .hbm, ⟨2, _⟩ => ⟨S2x512x14, .f32⟩
  | .hbm, ⟨3, _⟩ => ⟨S128x3152, .f32⟩
  | .hbm, ⟨4, _⟩ => ⟨S128, .f32⟩
  | .hbm, ⟨5, _⟩ => ⟨S128, .f32⟩
  | .hbm, ⟨6, _⟩ => ⟨S14x196, .f32⟩
  | .hbm, ⟨7, _⟩ => ⟨S2x3x512x14, .f32⟩
  | .hbm, ⟨8, _⟩ => ⟨S2x3x512x1, .f32⟩
  | .hbm, ⟨9, _⟩ => ⟨S2x3x512, .f32⟩
  | .hbm, ⟨10, _⟩ => ⟨S2x512x3x14, .f32⟩
  | .hbm, ⟨11, _⟩ => ⟨S_, .i32⟩
  | .hbm, ⟨12, _⟩ => ⟨S_, .f32⟩
  | .hbm, ⟨13, _⟩ => ⟨S2x512x3x16, .f32⟩
  | .hbm, ⟨14, _⟩ => ⟨S2x512x48, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S8, .f32⟩
  | .hbm, ⟨26, _⟩ => ⟨S512, .f32⟩
  | .hbm, ⟨27, _⟩ => ⟨S512x1, .f32⟩
  | .hbm, ⟨28, _⟩ => ⟨S1x8, .f32⟩
  | .hbm, ⟨29, _⟩ => ⟨S512x8, .f32⟩
  | .hbm, ⟨30, _⟩ => ⟨S512x8, .f32⟩
  | .hbm, ⟨31, _⟩ => ⟨S512x8, .f32⟩
  | .hbm, ⟨32, _⟩ => ⟨S512x8, .f32⟩
  | .hbm, ⟨33, _⟩ => ⟨S1x8, .f32⟩
  | .hbm, ⟨34, _⟩ => ⟨S512x8, .f32⟩
  | .hbm, ⟨35, _⟩ => ⟨S512x8, .f32⟩
  | .hbm, ⟨36, _⟩ => ⟨S512x8, .f32⟩
  | .hbm, ⟨37, _⟩ => ⟨S512x8, .f32⟩
  | .hbm, ⟨38, _⟩ => ⟨S512x16, .f32⟩
  | .hbm, ⟨39, _⟩ => ⟨S512x16, .f32⟩
  | .hbm, ⟨40, _⟩ => ⟨S512x32, .f32⟩
  | .hbm, ⟨41, _⟩ => ⟨S1x512x32, .f32⟩
  | .hbm, ⟨42, _⟩ => ⟨S2x512x32, .f32⟩
  | .hbm, ⟨43, _⟩ => ⟨S2x512x80, .f32⟩
  | .hbm, ⟨44, _⟩ => ⟨S512x8, .f32⟩
  | .hbm, ⟨45, _⟩ => ⟨S512x32, .f32⟩
  | .hbm, ⟨46, _⟩ => ⟨S128x16, .f32⟩
  | .hbm, ⟨47, _⟩ => ⟨S16x128, .f32⟩
  | .hbm, ⟨48, _⟩ => ⟨S128x3136, .f32⟩
  | .hbm, ⟨49, _⟩ => ⟨S3136x128, .f32⟩
  | .hbm, ⟨50, _⟩ => ⟨S196x16x128, .f32⟩
  | .hbm, ⟨51, _⟩ => ⟨S16x196x128, .f32⟩
  | .hbm, ⟨52, _⟩ => ⟨S1x128, .f32⟩
  | .hbm, ⟨53, _⟩ => ⟨S1x128, .f32⟩
  | .hbm, ⟨54, _⟩ => ⟨S2x30x512x128, .f32⟩
  | .hbm, ⟨55, _⟩ => ⟨S2x512x30, .i32⟩
  | .hbm, ⟨56, _⟩ => ⟨S2x512x30x128, .f32⟩
  | .local _ .vmem, ⟨0, _⟩ => ⟨S1x3x512, .f32⟩
  | .local _ .vmem, ⟨1, _⟩ => ⟨S1x3x512, .f32⟩
  | .local _ .vmem, ⟨2, _⟩ => ⟨S1x3x512x14, .f32⟩
  | .local _ .vmem, ⟨3, _⟩ => ⟨S1x3x512x14, .f32⟩
  | .local _ .vmem, ⟨4, _⟩ => ⟨S1x512x80, .f32⟩
  | .local _ .vmem, ⟨5, _⟩ => ⟨S1x512x80, .f32⟩
  | .local _ .vmem, ⟨6, _⟩ => ⟨S14x196, .f32⟩
  | .local _ .vmem, ⟨7, _⟩ => ⟨S64x32, .f32⟩
  | .local _ .vmem, ⟨8, _⟩ => ⟨S64x32, .f32⟩
  | .local _ .vmem, ⟨9, _⟩ => ⟨S16x128, .f32⟩
  | .local _ .vmem, ⟨10, _⟩ => ⟨S16x196x128, .f32⟩
  | .local _ .vmem, ⟨11, _⟩ => ⟨S1x128, .f32⟩
  | .local _ .vmem, ⟨12, _⟩ => ⟨S1x128, .f32⟩
  | .local _ .vmem, ⟨13, _⟩ => ⟨S1x30x64x128, .f32⟩
  | .local _ .vmem, ⟨14, _⟩ => ⟨S1x30x64x128, .f32⟩
  | .local _ .vmem, ⟨15, _⟩ => ⟨S1x64x30, .i32⟩
  | .local _ .vmem, ⟨16, _⟩ => ⟨S1x64x30, .i32⟩
  | .local _ .vmem, ⟨17, _⟩ => ⟨S1920x512, .f32⟩
  | _, _ => ⟨S2x512x14x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_call1_v0_0 : Ref sig .tc := ⟨.hbm, 54, rfl⟩
abbrev main_v42_1 : Ref sig .tc := ⟨.hbm, 55, rfl⟩
abbrev main_v42_0 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![2, 8], ![false, false]⟩

def k0_off1 (i : grid0.Coords) : Fin 4 → Nat :=
  let c0_2 : Index := 0#32
  let c0_3 : Index := 0#32
  let arg1 : BitVec 32 := BitVec.ofNat 32 (i 1).val
  let c64_i32 : BitVec 32 := 64#32
  let v0 : BitVec 32 := Scalar.muli arg1 c64_i32
  let v3 : Index := Scalar.indexCast v0
  let c1 : Index := 1#32
  ![0, 0, v3.toNat, 1]
def k0_off2 (i : grid0.Coords) : Fin 4 → Nat :=
  let c0_7 : Index := 0#32
  let c1_8 : Index := 1#32
  let arg1 : BitVec 32 := BitVec.ofNat 32 (i 1).val
  let c64_i32 : BitVec 32 := 64#32
  let v0 : BitVec 32 := Scalar.muli arg1 c64_i32
  let v12 : Index := Scalar.indexCast v0
  let c1_9 : Index := 1#32
  ![0, 1, v12.toNat, 1]
def k0_off3 (i : grid0.Coords) : Fin 4 → Nat :=
  let c0_12 : Index := 0#32
  let c2_13 : Index := 2#32
  let arg1 : BitVec 32 := BitVec.ofNat 32 (i 1).val
  let c64_i32 : BitVec 32 := 64#32
  let v0 : BitVec 32 := Scalar.muli arg1 c64_i32
  let v22 : Index := Scalar.indexCast v0
  let c1_14 : Index := 1#32
  ![0, 2, v22.toNat, 1]
def k0_off4 (i : grid0.Coords) : Fin 4 → Nat :=
  let c0_144 : Index := 0#32
  let c0_145 : Index := 0#32
  let arg1 : BitVec 32 := BitVec.ofNat 32 (i 1).val
  let c64_i32 : BitVec 32 := 64#32
  let v0 : BitVec 32 := Scalar.muli arg1 c64_i32
  let v477 : Index := Scalar.indexCast v0
  let c0_146 : Index := 0#32
  ![0, 0, v477.toNat, 0]
def k0_off5 (i : grid0.Coords) : Fin 4 → Nat :=
  let c0_150 : Index := 0#32
  let c1_151 : Index := 1#32
  let arg1 : BitVec 32 := BitVec.ofNat 32 (i 1).val
  let c64_i32 : BitVec 32 := 64#32
  let v0 : BitVec 32 := Scalar.muli arg1 c64_i32
  let v487 : Index := Scalar.indexCast v0
  let c0_152 : Index := 0#32
  ![0, 1, v487.toNat, 0]
def k0_off6 (i : grid0.Coords) : Fin 4 → Nat :=
  let c0_156 : Index := 0#32
  let c2_157 : Index := 2#32
  let arg1 : BitVec 32 := BitVec.ofNat 32 (i 1).val
  let c64_i32 : BitVec 32 := 64#32
  let v0 : BitVec 32 := Scalar.muli arg1 c64_i32
  let v498 : Index := Scalar.indexCast v0
  let c0_158 : Index := 0#32
  ![0, 2, v498.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x512x14 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S14x196 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S64x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x196x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x30x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x30 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "inv_sigma" => some ((4 / 5 : ℝ) : EReal)
  | "lin1" => some ((32 / 15 : ℝ) : EReal)
  | "lin10" => some ((64 / 3 : ℝ) : EReal)
  | "lin11" => some ((352 / 15 : ℝ) : EReal)
  | "lin12" => some ((128 / 5 : ℝ) : EReal)
  | "lin13" => some ((416 / 15 : ℝ) : EReal)
  | "lin14" => some ((448 / 15 : ℝ) : EReal)
  | "lin2" => some ((64 / 15 : ℝ) : EReal)
  | "lin3" => some ((32 / 5 : ℝ) : EReal)
  | "lin4" => some ((128 / 15 : ℝ) : EReal)
  | "lin5" => some ((32 / 3 : ℝ) : EReal)
  | "lin6" => some ((64 / 5 : ℝ) : EReal)
  | "lin7" => some ((224 / 15 : ℝ) : EReal)
  | "lin8" => some ((256 / 15 : ℝ) : EReal)
  | "lin9" => some ((96 / 5 : ℝ) : EReal)
  | "sq1" => some ((256 / 225 : ℝ) : EReal)
  | "sq10" => some ((1024 / 9 : ℝ) : EReal)
  | "sq11" => some ((30976 / 225 : ℝ) : EReal)
  | "sq12" => some ((4096 / 25 : ℝ) : EReal)
  | "sq13" => some ((43264 / 225 : ℝ) : EReal)
  | "sq14" => some ((50176 / 225 : ℝ) : EReal)
  | "sq2" => some ((1024 / 225 : ℝ) : EReal)
  | "sq3" => some ((256 / 25 : ℝ) : EReal)
  | "sq4" => some ((4096 / 225 : ℝ) : EReal)
  | "sq5" => some ((256 / 9 : ℝ) : EReal)
  | "sq6" => some ((1024 / 25 : ℝ) : EReal)
  | "sq7" => some ((12544 / 225 : ℝ) : EReal)
  | "sq8" => some ((16384 / 225 : ℝ) : EReal)
  | "sq9" => some ((2304 / 25 : ℝ) : EReal)
  | _ => none
-- ==== ReferenceIdeal.lean ====
abbrev S2x512x14x3 : Shape := ⟨4, ![2, 512, 14, 3]⟩
abbrev S2x512 : Shape := ⟨2, ![2, 512]⟩
abbrev S2x512x14 : Shape := ⟨3, ![2, 512, 14]⟩
abbrev S128x3152 : Shape := ⟨2, ![128, 3152]⟩
abbrev S128 : Shape := ⟨1, ![128]⟩
abbrev S2x512x1x3 : Shape := ⟨4, ![2, 512, 1, 3]⟩
abbrev S2x512x3 : Shape := ⟨3, ![2, 512, 3]⟩
abbrev S2x1x512 : Shape := ⟨3, ![2, 1, 512]⟩
abbrev S2x512x1 : Shape := ⟨3, ![2, 512, 1]⟩
abbrev S2x512x512 : Shape := ⟨3, ![2, 512, 512]⟩
abbrev S2x1x512x3 : Shape := ⟨4, ![2, 1, 512, 3]⟩
abbrev S2x512x512x3 : Shape := ⟨4, ![2, 512, 512, 3]⟩
abbrev S_ : Shape := ⟨0, ![]⟩
abbrev S2x512x30 : Shape := ⟨3, ![2, 512, 30]⟩
abbrev S2x512x30x1 : Shape := ⟨4, ![2, 512, 30, 1]⟩
abbrev S2x512x30x14x3 : Shape := ⟨5, ![2, 512, 30, 14, 3]⟩
abbrev S2x512x30x14 : Shape := ⟨4, ![2, 512, 30, 14]⟩
abbrev S2x512x1x14x1x3 : Shape := ⟨6, ![2, 512, 1, 14, 1, 3]⟩
abbrev S2x512x30x1x14x3 : Shape := ⟨6, ![2, 512, 30, 1, 14, 3]⟩
abbrev S2x512x30x14x14x3 : Shape := ⟨6, ![2, 512, 30, 14, 14, 3]⟩
abbrev S2x512x30x14x14 : Shape := ⟨5, ![2, 512, 30, 14, 14]⟩
abbrev S2x512x1x14x1 : Shape := ⟨5, ![2, 512, 1, 14, 1]⟩
abbrev S2x512x30x1x14 : Shape := ⟨5, ![2, 512, 30, 1, 14]⟩
abbrev S2x512x30x14x14x1 : Shape := ⟨6, ![2, 512, 30, 14, 14, 1]⟩
abbrev S15 : Shape := ⟨1, ![15]⟩
abbrev S1 : Shape := ⟨1, ![1]⟩
abbrev S16 : Shape := ⟨1, ![16]⟩
abbrev S1x1x1x1x1x16 : Shape := ⟨6, ![1, 1, 1, 1, 1, 16]⟩
abbrev S2x512x30x14x14x16 : Shape := ⟨6, ![2, 512, 30, 14, 14, 16]⟩
abbrev S2x512x30x3136 : Shape := ⟨4, ![2, 512, 30, 3136]⟩
abbrev S512 : Shape := ⟨1, ![512]⟩
abbrev S1x512x1 : Shape := ⟨3, ![1, 512, 1]⟩
abbrev S8 : Shape := ⟨1, ![8]⟩
abbrev S1x1x1x8 : Shape := ⟨4, ![1, 1, 1, 8]⟩
abbrev S2x512x30x8 : Shape := ⟨4, ![2, 512, 30, 8]⟩
abbrev S2x512x30x16 : Shape := ⟨4, ![2, 512, 30, 16]⟩
abbrev S2x512x30x3152 : Shape := ⟨4, ![2, 512, 30, 3152]⟩
abbrev S3152x128 : Shape := ⟨2, ![3152, 128]⟩
abbrev S2x512x30x128 : Shape := ⟨4, ![2, 512, 30, 128]⟩
abbrev S1x1x1x128 : Shape := ⟨4, ![1, 1, 1, 128]⟩

abbrev nBuf : Space → Nat
  | .hbm => 185
  | .vmem => 0
  | .smem => 0
  | _ => 0

abbrev hbmTy0_0 (i : Nat) : BufTy := match i % 128 with
  | 0 => ⟨S2x512x14x3, .f32⟩
  | 1 => ⟨S2x512, .f32⟩
  | 2 => ⟨S2x512x14, .f32⟩
  | 3 => ⟨S128x3152, .f32⟩
  | 4 => ⟨S128, .f32⟩
  | 5 => ⟨S128, .f32⟩
  | 6 => ⟨S2x512x1x3, .f32⟩
  | 7 => ⟨S2x512x3, .f32⟩
  | 8 => ⟨S2x1x512, .f32⟩
  | 9 => ⟨S2x512x1, .f32⟩
  | 10 => ⟨S2x512x512, .f32⟩
  | 11 => ⟨S2x512x512, .f32⟩
  | 12 => ⟨S2x512x512, .f32⟩
  | 13 => ⟨S2x1x512x3, .f32⟩
  | 14 => ⟨S2x512x1x3, .f32⟩
  | 15 => ⟨S2x512x512x3, .f32⟩
  | 16 => ⟨S2x512x512x3, .f32⟩
  | 17 => ⟨S2x512x512x3, .f32⟩
  | 18 => ⟨S2x512x512x3, .f32⟩
  | 19 => ⟨S_, .f32⟩
  | 20 => ⟨S2x512x512, .f32⟩
  | 21 => ⟨S_, .f32⟩
  | 22 => ⟨S2x512x512, .f32⟩
  | 23 => ⟨S2x512x512, .f32⟩
  | 24 => ⟨S2x512x512, .f32⟩
  | 25 => ⟨S2x512x512, .f32⟩
  | 26 => ⟨S_, .f32⟩
  | 27 => ⟨S2x512, .f32⟩
  | 28 => ⟨S2x512x1, .f32⟩
  | 29 => ⟨S_, .f32⟩
  | 30 => ⟨S2x512x512, .f32⟩
  | 31 => ⟨S2x512x512, .f32⟩
  | 32 => ⟨S_, .f32⟩
  | 33 => ⟨S2x512x512, .f32⟩
  | 34 => ⟨S2x512x512, .f32⟩
  | 35 => ⟨S2x512x512, .f32⟩
  | 36 => ⟨S2x512x512, .f32⟩
  | 37 => ⟨S2x512x512, .f32⟩
  | 38 => ⟨S2x512x512, .f32⟩
  | 39 => ⟨S2x512x30, .f32⟩
  | 40 => ⟨S2x512x30, .i32⟩
  | 41 => ⟨S_, .i32⟩
  | 42 => ⟨S2x512x30, .i32⟩
  | 43 => ⟨S2x512x30, .i1⟩
  | 44 => ⟨S_, .i32⟩
  | 45 => ⟨S2x512x30, .i32⟩
  | 46 => ⟨S2x512x30, .i32⟩
  | 47 => ⟨S2x512x30, .i32⟩
  | 48 => ⟨S2x512x30x1, .i32⟩
  | 49 => ⟨S2x512x30x14x3, .f32⟩
  | 50 => ⟨S_, .i32⟩
  | 51 => ⟨S2x512x30, .i32⟩
  | 52 => ⟨S2x512x30, .i1⟩
  | 53 => ⟨S_, .i32⟩
  | 54 => ⟨S2x512x30, .i32⟩
  | 55 => ⟨S2x512x30, .i32⟩
  | 56 => ⟨S2x512x30, .i32⟩
  | 57 => ⟨S2x512x30x1, .i32⟩
  | 58 => ⟨S2x512x30x14, .f32⟩
  | 59 => ⟨S2x512x1x14x1x3, .f32⟩
  | 60 => ⟨S2x512x30x1x14x3, .f32⟩
  | 61 => ⟨S2x512x30x14x14x3, .f32⟩
  | 62 => ⟨S2x512x30x14x14x3, .f32⟩
  | 63 => ⟨S2x512x30x14x14x3, .f32⟩
  | 64 => ⟨S2x512x30x14x14x3, .f32⟩
  | 65 => ⟨S_, .f32⟩
  | 66 => ⟨S2x512x30x14x14, .f32⟩
  | 67 => ⟨S_, .f32⟩
  | 68 => ⟨S2x512x30x14x14, .f32⟩
  | 69 => ⟨S2x512x30x14x14, .f32⟩
  | 70 => ⟨S2x512x30x14x14, .f32⟩
  | 71 => ⟨S2x512x1x14x1, .f32⟩
  | 72 => ⟨S2x512x30x1x14, .f32⟩
  | 73 => ⟨S2x512x30x14x14, .f32⟩
  | 74 => ⟨S2x512x30x14x14, .f32⟩
  | 75 => ⟨S2x512x30x14x14, .f32⟩
  | 76 => ⟨S2x512x30x14x14x1, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S15, .f32⟩
  | 85 => ⟨S_, .f32⟩
  | 86 => ⟨S15, .f32⟩
  | 87 => ⟨S15, .f32⟩
  | 88 => ⟨S1, .f32⟩
  | 89 => ⟨S_, .f32⟩
  | 90 => ⟨S15, .f32⟩
  | 91 => ⟨S15, .f32⟩
  | 92 => ⟨S15, .f32⟩
  | 93 => ⟨S15, .f32⟩
  | 94 => ⟨S1, .f32⟩
  | 95 => ⟨S15, .f32⟩
  | 96 => ⟨S15, .f32⟩
  | 97 => ⟨S15, .f32⟩
  | 98 => ⟨S1, .f32⟩
  | 99 => ⟨S16, .f32⟩
  | 100 => ⟨S2x512x30x14x14x1, .f32⟩
  | 101 => ⟨S1x1x1x1x1x16, .f32⟩
  | 102 => ⟨S2x512x30x14x14x16, .f32⟩
  | 103 => ⟨S2x512x30x14x14x16, .f32⟩
  | 104 => ⟨S2x512x30x14x14x16, .f32⟩
  | 105 => ⟨S_, .f32⟩
  | 106 => ⟨S2x512x30x14x14x16, .f32⟩
  | 107 => ⟨S2x512x30x14x14x16, .f32⟩
  | 108 => ⟨S2x512x30x14x14x16, .f32⟩
  | 109 => ⟨S2x512x30x14x14x16, .f32⟩
  | 110 => ⟨S2x512x30x14x14x16, .f32⟩
  | 111 => ⟨S2x512x30x14x14x16, .f32⟩
  | 112 => ⟨S2x512x30x14x14x16, .f32⟩
  | 113 => ⟨S2x512x30x3136, .f32⟩
  | 114 => ⟨S512, .f32⟩
  | 115 => ⟨S1x512x1, .f32⟩
  | 116 => ⟨S2x512x30, .f32⟩
  | 117 => ⟨S2x512x30, .f32⟩
  | 118 => ⟨S2x512x30, .f32⟩
  | 119 => ⟨S2x512x30x1, .f32⟩
  | 120 => ⟨S8, .f32⟩
  | 121 => ⟨S_, .f32⟩
  | 122 => ⟨S8, .f32⟩
  | 123 => ⟨S8, .f32⟩
  | 124 => ⟨S_, .f32⟩
  | 125 => ⟨S8, .f32⟩
  | 126 => ⟨S8, .f32⟩
  | 127 => ⟨S_, .f32⟩
  | _ => ⟨S2x512x14x3, .f32⟩

abbrev hbmTy0_1 (i : Nat) : BufTy := match i % 128 with
  | 0 => ⟨S8, .f32⟩
  | 1 => ⟨S8, .f32⟩
  | 2 => ⟨S8, .f32⟩
  | 3 => ⟨S1x1x1x8, .f32⟩
  | 4 => ⟨S2x512x30x8, .f32⟩
  | 5 => ⟨S2x512x30x8, .f32⟩
  | 6 => ⟨S2x512x30x8, .f32⟩
  | 7 => ⟨S2x512x30x8, .f32⟩
  | 8 => ⟨S2x512x30x8, .f32⟩
  | 9 => ⟨S2x512x30x16, .f32⟩
  | 10 => ⟨S2x512x30x3152, .f32⟩
  | 11 => ⟨S3152x128, .f32⟩
  | 12 => ⟨S2x512x30x128, .f32⟩
  | 13 => ⟨S_, .f32⟩
  | 14 => ⟨S2x512x30, .f32⟩
  | 15 => ⟨S2x512x30x1, .f32⟩
  | 16 => ⟨S_, .f32⟩
  | 17 => ⟨S2x512x30x1, .f32⟩
  | 18 => ⟨S2x512x30x1, .f32⟩
  | 19 => ⟨S_, .i32⟩
  | 20 => ⟨S_, .f32⟩
  | 21 => ⟨S2x512x30, .f32⟩
  | 22 => ⟨S2x512x30x1, .f32⟩
  | 23 => ⟨S_, .f32⟩
  | 24 => ⟨S2x512x30x1, .f32⟩
  | 25 => ⟨S2x512x30x1, .f32⟩
  | 26 => ⟨S2x512x30x128, .f32⟩
  | 27 => ⟨S2x512x30x128, .f32⟩
  | 28 => ⟨S2x512x30x128, .f32⟩
  | 29 => ⟨S_, .f32⟩
  | 30 => ⟨S_, .f32⟩
  | 31 => ⟨S_, .f32⟩
  | 32 => ⟨S_, .f32⟩
  | 33 => ⟨S2x512x30, .f32⟩
  | 34 => ⟨S2x512x30x1, .f32⟩
  | 35 => ⟨S2x512x30x1, .f32⟩
  | 36 => ⟨S2x512x30x1, .f32⟩
  | 37 => ⟨S_, .f32⟩
  | 38 => ⟨S_, .i1⟩
  | 39 => ⟨S_, .f32⟩
  | 40 => ⟨S_, .f32⟩
  | 41 => ⟨S2x512x30x1, .f32⟩
  | 42 => ⟨S2x512x30x1, .f32⟩
  | 43 => ⟨S2x512x30x128, .f32⟩
  | 44 => ⟨S2x512x30x128, .f32⟩
  | 45 => ⟨S_, .f32⟩
  | 46 => ⟨S2x512x30x1, .f32⟩
  | 47 => ⟨S2x512x30x1, .f32⟩
  | 48 => ⟨S2x512x30x1, .f32⟩
  | 49 => ⟨S2x512x30x128, .f32⟩
  | 50 => ⟨S2x512x30x128, .f32⟩
  | 51 => ⟨S1x1x1x128, .f32⟩
  | 52 => ⟨S2x512x30x128, .f32⟩
  | 53 => ⟨S2x512x30x128, .f32⟩
  | 54 => ⟨S1x1x1x128, .f32⟩
  | 55 => ⟨S2x512x30x128, .f32⟩
  | 56 => ⟨S2x512x30x128, .f32⟩
  | _ => ⟨S2x512x14x3, .f32⟩

abbrev hbmTy (i : Nat) : BufTy := match i / 128 with
  | 0 => hbmTy0_0 i
  | 1 => hbmTy0_1 i
  | _ => ⟨S2x512x14x3, .f32⟩

abbrev bufTy : (tb : Table) → Fin (tcTables nBuf tb) → BufTy
  | .hbm, ⟨i, _⟩ => hbmTy i
  | _, _ => ⟨S2x512x14x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_values : Ref sig .tc := ⟨.hbm, 39, rfl⟩
abbrev main_indices : Ref sig .tc := ⟨.hbm, 40, rfl⟩
abbrev main_c : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_cst_10 : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_cst : Ref sig .tc := ⟨.hbm, 82, rfl⟩
abbrev main_call0_v3 : Ref sig .tc := ⟨.hbm, 83, rfl⟩
abbrev main_call0_v4 : Ref sig .tc := ⟨.hbm, 84, rfl⟩
abbrev main_call0_cst_0 : Ref sig .tc := ⟨.hbm, 85, rfl⟩
abbrev main_call0_v5 : Ref sig .tc := ⟨.hbm, 86, rfl⟩
abbrev main_call0_v6 : Ref sig .tc := ⟨.hbm, 87, rfl⟩
abbrev main_call0_v7 : Ref sig .tc := ⟨.hbm, 88, rfl⟩
abbrev main_call0_cst_1 : Ref sig .tc := ⟨.hbm, 89, rfl⟩
abbrev main_call0_v8 : Ref sig .tc := ⟨.hbm, 90, rfl⟩
abbrev main_call0_v9 : Ref sig .tc := ⟨.hbm, 91, rfl⟩
abbrev main_call0_v10 : Ref sig .tc := ⟨.hbm, 92, rfl⟩
abbrev main_call0_v11 : Ref sig .tc := ⟨.hbm, 93, rfl⟩
abbrev main_call0_v12 : Ref sig .tc := ⟨.hbm, 94, rfl⟩
abbrev main_call0_v13 : Ref sig .tc := ⟨.hbm, 95, rfl⟩
abbrev main_call0_v14 : Ref sig .tc := ⟨.hbm, 96, rfl⟩
abbrev main_call0_v15 : Ref sig .tc := ⟨.hbm, 97, rfl⟩
abbrev main_call0_v16 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_11 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_cst_12 : Ref sig .tc := ⟨.hbm, 121, rfl⟩
abbrev main_v79 : Ref sig .tc := ⟨.hbm, 122, rfl⟩
abbrev main_v80 : Ref sig .tc := ⟨.hbm, 123, rfl⟩
abbrev main_cst_13 : Ref sig .tc := ⟨.hbm, 124, rfl⟩
abbrev main_v81 : Ref sig .tc := ⟨.hbm, 125, rfl⟩
abbrev main_v82 : Ref sig .tc := ⟨.hbm, 126, rfl⟩
abbrev main_cst_14 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_15 : Ref sig .tc := ⟨.hbm, 141, rfl⟩
abbrev main_v96 : Ref sig .tc := ⟨.hbm, 142, rfl⟩
abbrev main_v97 : Ref sig .tc := ⟨.hbm, 143, rfl⟩
abbrev main_cst_16 : Ref sig .tc := ⟨.hbm, 144, rfl⟩
abbrev main_v98 : Ref sig .tc := ⟨.hbm, 145, rfl⟩
abbrev main_v99 : Ref sig .tc := ⟨.hbm, 146, rfl⟩
abbrev main_c_17 : Ref sig .tc := ⟨.hbm, 147, rfl⟩
abbrev main_call1_cst : Ref sig .tc := ⟨.hbm, 148, rfl⟩
abbrev main_call1_v0 : Ref sig .tc := ⟨.hbm, 149, rfl⟩
abbrev main_call1_v1 : Ref sig .tc := ⟨.hbm, 150, rfl⟩
abbrev main_call1_cst_0 : Ref sig .tc := ⟨.hbm, 151, rfl⟩
abbrev main_call1_v2 : Ref sig .tc := ⟨.hbm, 152, rfl⟩
abbrev main_call1_v3 : Ref sig .tc := ⟨.hbm, 153, rfl⟩
abbrev main_call1_v4 : Ref sig .tc := ⟨.hbm, 154, rfl⟩
abbrev main_call1_v5 : Ref sig .tc := ⟨.hbm, 155, rfl⟩
abbrev main_call1_v6 : Ref sig .tc := ⟨.hbm, 156, rfl⟩
abbrev main_call1_v7 : Ref sig .tc := ⟨.hbm, 157, rfl⟩
abbrev main_call1_cst_1 : Ref sig .tc := ⟨.hbm, 158, rfl⟩
abbrev main_call1_v8 : Ref sig .tc := ⟨.hbm, 159, rfl⟩
abbrev main_call1_cst_2 : Ref sig .tc := ⟨.hbm, 160, rfl⟩
abbrev main_call1_v9 : Ref sig .tc := ⟨.hbm, 161, rfl⟩
abbrev main_call1_v10 : Ref sig .tc := ⟨.hbm, 162, rfl⟩
abbrev main_call1_v11 : Ref sig .tc := ⟨.hbm, 163, rfl⟩
abbrev main_call1_v12 : Ref sig .tc := ⟨.hbm, 164, rfl⟩
abbrev main_call1_cst_3 : Ref sig .tc := ⟨.hbm, 165, rfl⟩
abbrev main_call1_v13 : Ref sig .tc := ⟨.hbm, 166, rfl⟩
abbrev main_call1_cst_4 : Ref sig .tc := ⟨.hbm, 167, rfl⟩
abbrev main_call1_call0_v0 : Ref sig .tc := ⟨.hbm, 168, rfl⟩
abbrev main_call1_call0_v1 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_cst_18 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩

abbrev nD : Nat := 1
abbrev τ : Topo := Topo.v7x

variable {F : FTy → Type} [FloatOps F]
-- ==== Proof.Frames.lean ====
/- The claims that need no value: the reference's frame (from its straight-line run) and the 29 named constants. -/
module

public import proofs.«01_k».proof.Defs
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The reference runs, leaves its arguments alone, and holds no semaphore. -/
theorem reference_frame : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- Each named constant is its word's value up to the format's rounding. -/
theorem preserves : Cert.preserves_Kernel_KernelIdeal :=
  ⟨IdealRules.named_const.statement Cert.KernelIdeal.κ "inv_sigma" .f32 0x3F4CCCCD#32 ((4 / 5 : ℝ) : EReal) rfl,
   IdealRules.named_const.statement Cert.KernelIdeal.κ "lin1" .f32 0x40088889#32 ((32 / 15 : ℝ) : EReal) rfl,
   IdealRules.named_const.statement Cert.KernelIdeal.κ "sq1" .f32 0x3F91A2B4#32 ((256 / 225 : ℝ) : EReal) rfl,
   IdealRules.named_const.statement Cert.KernelIdeal.κ "lin2" .f32 0x40888889#32 ((64 / 15 : ℝ) : EReal) rfl,
   IdealRules.named_const.statement Cert.KernelIdeal.κ "sq2" .f32 0x4091A2B4#32 ((1024 / 225 : ℝ) : EReal) rfl,
   IdealRules.named_const.statement Cert.KernelIdeal.κ "lin3" .f32 0x40CCCCCD#32 ((32 / 5 : ℝ) : EReal) rfl,
   IdealRules.named_const.statement Cert.KernelIdeal.κ "sq3" .f32 0x4123D70A#32 ((256 / 25 : ℝ) : EReal) rfl,
   IdealRules.named_const.statement Cert.KernelIdeal.κ "lin4" .f32 0x41088889#32 ((128 / 15 : ℝ) : EReal) rfl,
   IdealRules.named_const.statement Cert.KernelIdeal.κ "sq4" .f32 0x4191A2B4#32 ((4096 / 225 : ℝ) : EReal) rfl,
   IdealRules.named_const.statement Cert.KernelIdeal.κ "lin5" .f32 0x412AAAAB#32 ((32 / 3 : ℝ) : EReal) rfl,
   IdealRules.named_const.statement Cert.KernelIdeal.κ "sq5" .f32 0x41E38E39#32 ((256 / 9 : ℝ) : EReal) rfl,
   IdealRules.named_const.statement Cert.KernelIdeal.κ "lin6" .f32 0x414CCCCD#32 ((64 / 5 : ℝ) : EReal) rfl,
   IdealRules.named_const.statement Cert.KernelIdeal.κ "sq6" .f32 0x4223D70A#32 ((1024 / 25 : ℝ) : EReal) rfl,
   IdealRules.named_const.statement Cert.KernelIdeal.κ "lin7" .f32 0x416EEEEF#32 ((224 / 15 : ℝ) : EReal) rfl,
   IdealRules.named_const.statement Cert.KernelIdeal.κ "sq7" .f32 0x425F0123#32 ((12544 / 225 : ℝ) : EReal) rfl,
   IdealRules.named_const.statement Cert.KernelIdeal.κ "lin8" .f32 0x41888889#32 ((256 / 15 : ℝ) : EReal) rfl,
   IdealRules.named_const.statement Cert.KernelIdeal.κ "sq8" .f32 0x4291A2B4#32 ((16384 / 225 : ℝ) : EReal) rfl,
   IdealRules.named_const.statement Cert.KernelIdeal.κ "lin9" .f32 0x4199999A#32 ((96 / 5 : ℝ) : EReal) rfl,
   IdealRules.named_const.statement Cert.KernelIdeal.κ "sq9" .f32 0x42B851EC#32 ((2304 / 25 : ℝ) : EReal) rfl,
   IdealRules.named_const.statement Cert.KernelIdeal.κ "lin10" .f32 0x41AAAAAB#32 ((64 / 3 : ℝ) : EReal) rfl,
   IdealRules.named_const.statement Cert.KernelIdeal.κ "sq10" .f32 0x42E38E39#32 ((1024 / 9 : ℝ) : EReal) rfl,
   IdealRules.named_const.statement Cert.KernelIdeal.κ "lin11" .f32 0x41BBBBBC#32 ((352 / 15 : ℝ) : EReal) rfl,
   IdealRules.named_const.statement Cert.KernelIdeal.κ "sq11" .f32 0x4309ABCE#32 ((30976 / 225 : ℝ) : EReal) rfl,
   IdealRules.named_const.statement Cert.KernelIdeal.κ "lin12" .f32 0x41CCCCCD#32 ((128 / 5 : ℝ) : EReal) rfl,
   IdealRules.named_const.statement Cert.KernelIdeal.κ "sq12" .f32 0x4323D70A#32 ((4096 / 25 : ℝ) : EReal) rfl,
   IdealRules.named_const.statement Cert.KernelIdeal.κ "lin13" .f32 0x41DDDDDE#32 ((416 / 15 : ℝ) : EReal) rfl,
   IdealRules.named_const.statement Cert.KernelIdeal.κ "sq13" .f32 0x434048D1#32 ((43264 / 225 : ℝ) : EReal) rfl,
   IdealRules.named_const.statement Cert.KernelIdeal.κ "lin14" .f32 0x41EEEEEF#32 ((448 / 15 : ℝ) : EReal) rfl,
   IdealRules.named_const.statement Cert.KernelIdeal.κ "sq14" .f32 0x435F0123#32 ((50176 / 225 : ℝ) : EReal) rfl⟩

end Cert.Proof

end
-- ==== Proof.KernelBlock.lean ====
/- What one grid point computes, in a small vocabulary: one step of the nearest-neighbour choice iterated 30 times, the
   gather by a one-hot product, the 14 x 14 atom distances, the 16 radial terms and the layer normalisation; and that the
   contents the body leaves in its two output blocks are these. -/
module

public import proofs.«01_k».proof.Proof.Gen.KernelIdeal.Frame
public import Idealize.ShloMosaic.Lib.Pipeline.ValueKit

@[expose] public section

set_option maxRecDepth 16384

noncomputable section

namespace Cert.Proof.KB

open Idealize.ShloMosaic Idealize.ShloMosaic.TcCoe Idealize.ShloMosaic.Tactic Idealize.SL.Sem
open Cert.KernelIdeal Cert.KernelIdeal.Gen

variable {F : FTy → Type} [FloatOps F] [Named F]

/-! ## Choosing the nearest columns -/

/-- The column numbers, in every row. -/
def lanes : IVec S64x512 32 := iota .tc S64x512 32 [1] iota_S64x512_d1_w32

/-- Each row's least entry, in every column. -/
def rowMin (w : FVec F S64x512 .f32) : FVec F S64x512 .f32 :=
  broadcastTo S64x512 (shapeCast S64x1 (multiReduction .minimumf [1] S64 w 0x7F800000#32 reduces_S64x512_S64 (.inl rfl) rfl)
    shapeCasts_S64_S64x1) broadcasts_S64x1_S64x512

/-- Each row's first column holding its least entry. -/
def first (w : FVec F S64x512 .f32) : IVec S64x1 32 :=
  shapeCast S64x1 (multiReductionI .minsi [1] S64 (select (cmpf .oeq w (rowMin w)) lanes (broadcast S64x512 512#32))
    2147483647#32 reduces_S64x512_S64 rfl) shapeCasts_S64_S64x1

/-- The chosen column's mark. -/
def hit (w : FVec F S64x512 .f32) : IVec S64x512 1 :=
  cmpi .eq lanes (broadcastTo S64x512 (first w) broadcasts_S64x1_S64x512)

/-- The chosen column's entry raised to infinity. -/
def next (w : FVec F S64x512 .f32) : FVec F S64x512 .f32 :=
  select (hit w) (broadcast S64x512 (Scalar.ofBits .f32 0x7F800000#32)) w

/-- The rows after `s` choices. -/
def chain (d : FVec F S64x512 .f32) : Nat → FVec F S64x512 .f32
  | 0 => d
  | s + 1 => next (chain d s)

/-- The mark as a row of zeros and a one. -/
def oneHot (w : FVec F S64x512 .f32) : FVec F S64x512 .f32 := sitofp .f32 (extui 32 (hit w) natLt_1_32)

/-- The block of chosen columns. -/
def idxBlock (d : FVec F S64x512 .f32) : IVec S1x64x30 32 :=
  shapeCast S1x64x30 (concatenate S64x30 1 (List.ofFn fun s : Fin 30 => ⟨S64x1, first (chain d s.val)⟩)
    concatenates_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x30_d1)
    shapeCasts_S64x30_S1x64x30

/-! ## Gathering the chosen rows -/

/-- The one-hot rows of all the choices, choice by choice. -/
def marks (d : FVec F S64x512 .f32) : FVec F S1920x512 .f32 :=
  concatenate S1920x512 0 (List.ofFn fun s : Fin 30 => ⟨S64x512, oneHot (chain d s.val)⟩)
    concatenates_S64x512_S64x512_S64x512_S64x512_S64x512_S64x512_S64x512_S64x512_S64x512_S64x512_S64x512_S64x512_S64x512_S64x512_S64x512_S64x512_S64x512_S64x512_S64x512_S64x512_S64x512_S64x512_S64x512_S64x512_S64x512_S64x512_S64x512_S64x512_S64x512_S64x512_S1920x512_d0

/-- The 80 features of the chosen rows: the product by the features' leading part, plus the product by the rest. -/
def gathered (d : FVec F S64x512 .f32) (x : Vec F S1x512x80 .f32) : FVec F S1920x80 .f32 :=
  let y : FVec F S512x80 .f32 := shapeCast S512x80 x shapeCasts_S1x512x80_S512x80
  addf (matmul dot_S1920x512_S512x80_S1920x80_1_0_0_1_n_n none (marks d) (truncf .bf16 y bitsLt_bf16_f32)
      (constant S1920x80 .f32 0x00000000#32))
    (matmul dot_S1920x512_S512x80_S1920x80_1_0_0_1_n_n none (marks d)
      (truncf .bf16 (subf y (extf .f32 (truncf .bf16 y bitsLt_bf16_f32) bitsLt_bf16_f32)) bitsLt_bf16_f32)
      (constant S1920x80 .f32 0x00000000#32))

/-! ## The positional features -/

/-- A 64-row table repeated for every choice. -/
def rep16 (u : Vec F S64x16 .f32) : FVec F S1920x16 .f32 :=
  concatenate S1920x16 0 (List.ofFn fun _ : Fin 30 => ⟨S64x16, shapeCast S64x16 u shapeCasts_S64x16_S64x16⟩)
    concatenates_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S1920x16_d0

/-- The 16 positional features: cosine and sine of the difference of angles. -/
def posFeat (g : FVec F S1920x80 .f32) (u v : Vec F S64x16 .f32) : FVec F S1920x16 .f32 :=
  addf (mulf (extractStridedSlice S1920x16 ![0, 48] g slices_S1920x80_o0_48_S1920x16) (rep16 u))
    (mulf (extractStridedSlice S1920x16 ![0, 64] g slices_S1920x80_o0_64_S1920x16) (rep16 v))

/-! ## The atom distances -/

/-- The neighbour's 14 atoms, repeated for each of the query's. -/
def nbAtoms (s : FVec F S1920x14 .f32) : FVec F S1920x196 .f32 :=
  concatenate S1920x196 1 (List.ofFn fun _ : Fin 14 => ⟨S1920x14, s⟩)
    concatenates_S1920x14_S1920x14_S1920x14_S1920x14_S1920x14_S1920x14_S1920x14_S1920x14_S1920x14_S1920x14_S1920x14_S1920x14_S1920x14_S1920x14_S1920x196_d1

/-- The query's 14 atoms, each repeated 14 times, for every choice. -/
def qAtoms (q : Vec F S1x1x64x14 .f32) (e : Vec F S14x196 .f32) : FVec F S1920x196 .f32 :=
  concatenate S1920x196 0 (List.ofFn fun _ : Fin 30 => ⟨S64x196,
      matmul dot_S64x14_S14x196_S64x196_1_0_0_1_n_n (some .fp32) (shapeCast S64x14 q shapeCasts_S1x1x64x14_S64x14) e
        (constant S64x196 .f32 0x00000000#32)⟩)
    concatenates_S64x196_S64x196_S64x196_S64x196_S64x196_S64x196_S64x196_S64x196_S64x196_S64x196_S64x196_S64x196_S64x196_S64x196_S64x196_S64x196_S64x196_S64x196_S64x196_S64x196_S64x196_S64x196_S64x196_S64x196_S64x196_S64x196_S64x196_S64x196_S64x196_S64x196_S1920x196_d0

/-- One coordinate's difference. -/
def diff (s : FVec F S1920x14 .f32) (q : Vec F S1x1x64x14 .f32) (e : Vec F S14x196 .f32) : FVec F S1920x196 .f32 :=
  subf (qAtoms q e) (nbAtoms s)

/-- The distances in units of the radial functions' width. -/
def scaled (g : FVec F S1920x80 .f32) (q0 q1 q2 : Vec F S1x1x64x14 .f32) (e : Vec F S14x196 .f32) : FVec F S1920x196 .f32 :=
  let d0 := diff (extractStridedSlice S1920x14 ![0, 0] g slices_S1920x80_o0_0_S1920x14) q0 e
  let d1 := diff (extractStridedSlice S1920x14 ![0, 16] g slices_S1920x80_o0_16_S1920x14) q1 e
  let d2 := diff (extractStridedSlice S1920x14 ![0, 32] g slices_S1920x80_o0_32_S1920x14) q2 e
  mulf (sqrt (addf (addf (addf (mulf d0 d0) (mulf d1 d1)) (mulf d2 d2)) (broadcast S1920x196 (Scalar.ofBits .f32 0x358637BD#32))))
    (broadcast S1920x196 (Named.named κ "inv_sigma" 0x3F4CCCCD#32))

/-! ## The radial terms -/

/-- Twice each scaled centre. -/
def lin : Fin 16 → F .f32 :=
  ![Scalar.ofBits .f32 0x00000000#32,
    Named.named κ "lin1" 0x40088889#32,
    Named.named κ "lin2" 0x40888889#32,
    Named.named κ "lin3" 0x40CCCCCD#32,
    Named.named κ "lin4" 0x41088889#32,
    Named.named κ "lin5" 0x412AAAAB#32,
    Named.named κ "lin6" 0x414CCCCD#32,
    Named.named κ "lin7" 0x416EEEEF#32,
    Named.named κ "lin8" 0x41888889#32,
    Named.named κ "lin9" 0x4199999A#32,
    Named.named κ "lin10" 0x41AAAAAB#32,
    Named.named κ "lin11" 0x41BBBBBC#32,
    Named.named κ "lin12" 0x41CCCCCD#32,
    Named.named κ "lin13" 0x41DDDDDE#32,
    Named.named κ "lin14" 0x41EEEEEF#32,
    Scalar.ofBits .f32 0x42000000#32]

/-- Each scaled centre's square. -/
def sq : Fin 16 → F .f32 :=
  ![Scalar.ofBits .f32 0x00000000#32,
    Named.named κ "sq1" 0x3F91A2B4#32,
    Named.named κ "sq2" 0x4091A2B4#32,
    Named.named κ "sq3" 0x4123D70A#32,
    Named.named κ "sq4" 0x4191A2B4#32,
    Named.named κ "sq5" 0x41E38E39#32,
    Named.named κ "sq6" 0x4223D70A#32,
    Named.named κ "sq7" 0x425F0123#32,
    Named.named κ "sq8" 0x4291A2B4#32,
    Named.named κ "sq9" 0x42B851EC#32,
    Named.named κ "sq10" 0x42E38E39#32,
    Named.named κ "sq11" 0x4309ABCE#32,
    Named.named κ "sq12" 0x4323D70A#32,
    Named.named κ "sq13" 0x434048D1#32,
    Named.named κ "sq14" 0x435F0123#32,
    Scalar.ofBits .f32 0x43800000#32]

/-- One radial function's contribution added on. -/
def rbfStep (u w : FVec F S1920x196 .f32) (acc : FVec F S1920x128 .f32) (p : F .f32 × F .f32 × Vec F S1x196x128 .f32) :
    FVec F S1920x128 .f32 :=
  addf acc (matmul dot_S1920x196_S196x128_S1920x128_1_0_0_1_n_n none
    (exp (addf (mulf u (broadcast S1920x196 p.1)) (subf w (broadcast S1920x196 p.2.1))))
    (shapeCast S196x128 p.2.2 shapeCasts_S1x196x128_S196x128) (constant S1920x128 .f32 0x00000000#32))

theorem inb_wr (k : Fin 16) : ∀ a, (![k.val, 0, 0] : Fin 3 → Nat) a + S1x196x128.size a ≤ S16x196x128.size a := by
  revert k; decide

/-- One radial function's weights. -/
def wr (x : Vec F S16x196x128 .f32) (k : Fin 16) : Vec F S1x196x128 .f32 :=
  View.ld x (Rect.unit (s := S16x196x128) ![k.val, 0, 0] S1x196x128.size (inb_wr k))

/-- The edge embedding before normalisation. -/
def emb (p : FVec F S1920x16 .f32) (u : FVec F S1920x196 .f32) (wpe : Vec F S16x128 .f32) (x : Vec F S16x196x128 .f32) :
    FVec F S1920x128 .f32 :=
  (List.ofFn fun k : Fin 16 => (lin (F := F) k, sq (F := F) k, wr x k)).foldl
    (rbfStep u (subf (broadcast S1920x196 (Scalar.ofBits .f32 0x00000000#32)) (mulf u u)))
    (matmul dot_S1920x16_S16x128_S1920x128_1_0_0_1_n_n none p (shapeCast S16x128 wpe shapeCasts_S16x128_S16x128)
      (constant S1920x128 .f32 0x00000000#32))

/-! ## The layer normalisation -/

/-- Each row's sum over 128. -/
def rowMean (x : FVec F S1920x128 .f32) : FVec F S1920x1 .f32 :=
  divf (shapeCast S1920x1 (multiReduction .add [1] S1920 x 0x00000000#32 reduces_S1920x128_S1920 (.inl rfl) rfl)
    shapeCasts_S1920_S1920x1) (broadcast S1920x1 (Scalar.ofBits .f32 0x43000000#32))

/-- The rows with their means taken off. -/
def centred (x : FVec F S1920x128 .f32) : FVec F S1920x128 .f32 :=
  subf x (broadcastTo S1920x128 (rowMean x) broadcasts_S1920x1_S1920x128)

/-- The normalised, scaled and shifted rows, as the output block. -/
def normed (x : FVec F S1920x128 .f32) (gamma beta : Vec F S1x128 .f32) : FVec F S1x30x64x128 .f32 :=
  shapeCast S1x30x64x128 (shapeCast S30x64x128
    (addf (mulf (mulf (centred x) (broadcastTo S1920x128
        (rsqrt (addf (rowMean (mulf (centred x) (centred x))) (broadcast S1920x1 (Scalar.ofBits .f32 0x3727C5AC#32))))
        broadcasts_S1920x1_S1920x128))
      (broadcastTo S1920x128 (shapeCast S1x128 gamma shapeCasts_S1x128_S1x128) broadcasts_S1x128_S1920x128))
      (broadcastTo S1920x128 (shapeCast S1x128 beta shapeCasts_S1x128_S1x128) broadcasts_S1x128_S1920x128))
    shapeCasts_S1920x128_S30x64x128) shapeCasts_S30x64x128_S1x30x64x128

/-! ## The point -/

/-- The point's distances. -/
def dist (i : grid0.Coords) (x0 : Vec F S1x3x512 .f32) (x1 : Vec F S1x3x512x14 .f32) : FVec F S64x512 .f32 :=
  k0_pay2 (View.ld x0 (Rect.unit (s := S1x3x512) ![0, 0, 0] S1x1x512.size inb_S1x3x512_S1x1x512_0_0_0))
    (View.ld x1 (Rect.unit (s := S1x3x512x14) (k0_off1 i) S1x1x64x1.size (k0_off1_inb i)))
    (View.ld x0 (Rect.unit (s := S1x3x512) ![0, 1, 0] S1x1x512.size inb_S1x3x512_S1x1x512_0_1_0))
    (View.ld x1 (Rect.unit (s := S1x3x512x14) (k0_off2 i) S1x1x64x1.size (k0_off2_inb i)))
    (View.ld x0 (Rect.unit (s := S1x3x512) ![0, 2, 0] S1x1x512.size inb_S1x3x512_S1x1x512_0_2_0))
    (View.ld x1 (Rect.unit (s := S1x3x512x14) (k0_off3 i) S1x1x64x1.size (k0_off3_inb i)))

/-- The point's embedding before normalisation. -/
def pointEmb (i : grid0.Coords) (d : FVec F S64x512 .f32) (x1 : Vec F S1x3x512x14 .f32) (x2 : Vec F S1x512x80 .f32)
    (x3 : Vec F S14x196 .f32) (x4 : Vec F S64x32 .f32) (x5 : Vec F S16x128 .f32) (x6 : Vec F S16x196x128 .f32) :
    FVec F S1920x128 .f32 :=
  emb (posFeat (gathered d x2)
      (View.ld x4 (Rect.unit (s := S64x32) ![0, 0] S64x16.size inb_S64x32_S64x16_0_0))
      (View.ld x4 (Rect.unit (s := S64x32) ![0, 16] S64x16.size inb_S64x32_S64x16_0_16)))
    (scaled (gathered d x2)
      (View.ld x1 (Rect.unit (s := S1x3x512x14) (k0_off4 i) S1x1x64x14.size (k0_off4_inb i)))
      (View.ld x1 (Rect.unit (s := S1x3x512x14) (k0_off5 i) S1x1x64x14.size (k0_off5_inb i)))
      (View.ld x1 (Rect.unit (s := S1x3x512x14) (k0_off6 i) S1x1x64x14.size (k0_off6_inb i))) x3) x5 x6

variable (m : (ℓ : Loc nD τ sig) → Buf (Elt F) ℓ)

/-- The body leaves the chosen columns in its second output block. -/
theorem outs_idx (c : Dev nD) (t : Fin cfg0.N) :
    (outsAt0 m c t).2 = idxBlock (dist (grid0.coords t) (iblk m c 0 t) (iblk m c 1 t)) := by
  unfold outsAt0
  dsimp only
  frame_out
  sl_kernel_rfl

/-- The body leaves the normalised embedding in its first output block. -/
theorem outs_emb (c : Dev nD) (t : Fin cfg0.N) :
    (outsAt0 m c t).1 = normed (pointEmb (grid0.coords t) (dist (grid0.coords t) (iblk m c 0 t) (iblk m c 1 t))
      (iblk m c 1 t) (iblk m c 2 t) (iblk m c 3 t) (iblk m c 4 t) (iblk m c 5 t) (iblk m c 6 t))
      (iblk m c 7 t) (iblk m c 8 t) := by
  unfold outsAt0
  dsimp only
  frame_out
  sl_kernel_rfl

end Cert.Proof.KB

end
-- ==== Proof.Consts.lean ====
/- The literal words of the two programs, as extended reals, and the values of the named constants. -/
module

public import proofs.«01_k».proof.Proof.KernelBlock
public import Idealize.ShloMosaic.PureOps.IdealRules

@[expose] public section

noncomputable section

namespace Cert.Proof.Consts

open Idealize.ShloMosaic Cert.KernelIdeal Cert.KernelIdeal.Gen

/-- Positive infinity. -/
theorem infinity : Ideal.ofBits .f32 0x7F800000#32 = (⊤ : EReal) := by
  simp [Ideal.ofBits, Ideal.ieee]

theorem zero : Ideal.ofBits .f32 0x00000000#32 = ((0 : ℝ) : EReal) := by
  simp [Ideal.ofBits, Ideal.ieee]

theorem one : Ideal.ofBits .f32 0x3F800000#32 = ((1 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem fifteen : Ideal.ofBits .f32 0x41700000#32 = ((15 : ℝ) : EReal) := by
  simp [Ideal.ofBits, Ideal.ieee, -EReal.coe_mul]; norm_num

theorem twenty : Ideal.ofBits .f32 0x41A00000#32 = ((20 : ℝ) : EReal) := by
  simp [Ideal.ofBits, Ideal.ieee, -EReal.coe_mul]; norm_num

theorem thirtyTwo : Ideal.ofBits .f32 0x42000000#32 = ((32 : ℝ) : EReal) := by
  simp [Ideal.ofBits, Ideal.ieee, -EReal.coe_mul]; norm_num

theorem hundred28 : Ideal.ofBits .f32 0x43000000#32 = ((128 : ℝ) : EReal) := by
  simp [Ideal.ofBits, Ideal.ieee, -EReal.coe_mul]; norm_num

theorem twofiftysix : Ideal.ofBits .f32 0x43800000#32 = ((256 : ℝ) : EReal) := by
  simp [Ideal.ofBits, Ideal.ieee, -EReal.coe_mul]; norm_num

/-- The radial functions' width, 5/4. -/
theorem width : Ideal.ofBits .f32 0x3FA00000#32 = ((5 / 4 : ℝ) : EReal) := by
  simp [Ideal.ofBits, Ideal.ieee, -EReal.coe_mul]; norm_num

/-- The distances' small summand. -/
theorem eps : ∃ r : ℝ, 0 < r ∧ Ideal.ofBits .f32 0x358637BD#32 = (r : EReal) := by
  refine ⟨_, ?_, by simp [Ideal.ofBits, Ideal.ieee, -EReal.coe_mul]; rfl⟩
  norm_num

/-- The variance's small summand. -/
theorem eps' : ∃ r : ℝ, 0 < r ∧ Ideal.ofBits .f32 0x3727C5AC#32 = (r : EReal) := by
  refine ⟨_, ?_, by simp [Ideal.ofBits, Ideal.ieee, -EReal.coe_mul]; rfl⟩
  norm_num

/-- The frequencies' exponent step. -/
theorem step : ∃ r : ℝ, Ideal.ofBits .f32 0xBF135D8E#32 = (r : EReal) :=
  ⟨_, by simp [Ideal.ofBits, Ideal.ieee, -EReal.coe_mul]; rfl⟩

theorem invSigma : (Named.named κ "inv_sigma" 0x3F4CCCCD#32 : Ideal .f32) = ((4 / 5 : ℝ) : EReal) := by
  rw [IdealRules.named_const.ideal_named_scalar _ _ _ _ rfl]

theorem lin_eq (k : Fin 16) : KB.lin (F := Ideal) k = ((32 * (k.val : ℝ) / 15 : ℝ) : EReal) := by
  fin_cases k
  · exact zero.trans (by norm_num)
  all_goals first
    | exact thirtyTwo.trans (by norm_num)
    | exact (IdealRules.named_const.ideal_named_scalar _ _ _ _ rfl).trans (by norm_num)

theorem sq_eq (k : Fin 16) : KB.sq (F := Ideal) k = ((256 * (k.val : ℝ) ^ 2 / 225 : ℝ) : EReal) := by
  fin_cases k
  · exact zero.trans (by norm_num)
  all_goals first
    | exact twofiftysix.trans (by norm_num)
    | exact (IdealRules.named_const.ideal_named_scalar _ _ _ _ rfl).trans (by norm_num)

end Cert.Proof.Consts

end
-- ==== Proof.Select.lean ====
/- Choosing the nearest entries of a row one after another: the first position of the least entry is taken, its entry is
   raised to infinity, and the choice is made again. On a row with no infinite entry this lists the row's positions in the
   order of a stable ascending sort. -/
module

public import Idealize.ShloMosaic.Lib.SortPrefix
public import Mathlib.Data.EReal.Basic
public import Mathlib.Data.Prod.Lex

@[expose] public section

noncomputable section

namespace Cert.Proof.Select

open Idealize.ShloMosaic

variable {n : Nat}

/-- Some position holds a least entry and is the first that does. -/
theorem exists_first [NeZero n] (w : Fin n → EReal) :
    ∃ l : Fin n, (∀ k, w l ≤ w k) ∧ ∀ k, w k = w l → l ≤ k := by
  obtain ⟨l, -, hl⟩ := Finset.exists_min_image (Finset.univ : Finset (Fin n)) (fun k => toLex (w k, k)) ⟨0, Finset.mem_univ _⟩
  refine ⟨l, fun k => ?_, fun k hk => ?_⟩
  · rcases Prod.Lex.toLex_le_toLex.mp (hl k (Finset.mem_univ k)) with h | h
    · exact le_of_lt h
    · exact le_of_eq h.1
  · rcases Prod.Lex.toLex_le_toLex.mp (hl k (Finset.mem_univ k)) with h | h
    · exact absurd hk (ne_of_gt h)
    · exact h.2

/-- The first position of the row's least entry. -/
def amin [NeZero n] (w : Fin n → EReal) : Fin n := (exists_first w).choose

theorem amin_le [NeZero n] (w : Fin n → EReal) (k : Fin n) : w (amin w) ≤ w k := (exists_first w).choose_spec.1 k

theorem amin_first [NeZero n] (w : Fin n → EReal) (k : Fin n) (h : w k = w (amin w)) : amin w ≤ k :=
  (exists_first w).choose_spec.2 k h

/-- The row after `s` choices: every chosen entry raised to infinity. -/
def work [NeZero n] (D : Fin n → EReal) : Nat → Fin n → EReal
  | 0 => D
  | s + 1 => fun l => if l = amin (work D s) then ⊤ else work D s l

/-- The position chosen at step `s`. -/
def sel [NeZero n] (D : Fin n → EReal) (s : Nat) : Fin n := amin (work D s)

theorem work_eq [NeZero n] (D : Fin n → EReal) (s : Nat) (l : Fin n) :
    work D s l = if ∃ j < s, sel D j = l then ⊤ else D l := by
  induction s with
  | zero => simp [work]
  | succ s ih =>
    simp only [work]
    by_cases h : l = amin (work D s)
    · rw [if_pos h, if_pos ⟨s, Nat.lt_succ_self s, h.symm⟩]
    · rw [if_neg h, ih]
      refine if_congr ⟨fun ⟨j, hj, e⟩ => ⟨j, Nat.lt_succ_of_lt hj, e⟩, fun ⟨j, hj, e⟩ => ⟨j, ?_, e⟩⟩ rfl rfl
      rcases Nat.lt_succ_iff_lt_or_eq.mp hj with hj | rfl
      · exact hj
      · exact absurd e.symm h

/-- While fewer choices than positions were made, the next one is a position not chosen before. -/
theorem sel_fresh [NeZero n] (D : Fin n → EReal) (hD : ∀ l, D l < ⊤) (s : Nat) (hs : s < n) (j : Nat) (hj : j < s) :
    sel D j ≠ sel D s := by
  intro e
  obtain ⟨l, hl⟩ : ∃ l : Fin n, ∀ i < s, sel D i ≠ l := by
    by_contra hc
    push Not at hc
    have hsub : (Finset.univ : Finset (Fin n)) ⊆ (Finset.range s).image (sel D) := fun l _ => by
      obtain ⟨i, hi, e⟩ := hc l
      exact Finset.mem_image.mpr ⟨i, Finset.mem_range.mpr hi, e⟩
    have := (Finset.card_le_card hsub).trans Finset.card_image_le
    rw [Finset.card_univ, Fintype.card_fin, Finset.card_range] at this
    omega
  have h1 : work D s (sel D s) ≤ work D s l := amin_le _ l
  rw [work_eq D s l, if_neg (by rintro ⟨i, hi, e⟩; exact hl i hi e), work_eq D s (sel D s), if_pos ⟨j, hj, e⟩] at h1
  exact absurd (hD l) (not_lt.mpr h1)

/-- A position not chosen before step `s` is not nearer than the one chosen at `s`, and not at an earlier position at the
    same distance. -/
theorem sel_least [NeZero n] (D : Fin n → EReal) (hD : ∀ l, D l < ⊤) (s : Nat) (hs : s < n) (l : Fin n)
    (hl : ∀ i < s, sel D i ≠ l) : D (sel D s) ≤ D l ∧ (D l = D (sel D s) → sel D s ≤ l) := by
  have e1 : work D s l = D l := by rw [work_eq, if_neg]; rintro ⟨i, hi, e⟩; exact hl i hi e
  have e2 : work D s (sel D s) = D (sel D s) := by
    rw [work_eq, if_neg]; rintro ⟨i, hi, e⟩; exact sel_fresh D hD s hs i hi e
  have h1 : work D s (sel D s) ≤ work D s l := amin_le _ l
  have h2 : work D s l = work D s (sel D s) → sel D s ≤ l := amin_first _ l
  rw [e1, e2] at h1 h2
  exact ⟨h1, h2⟩

/-- Nearer first, and at equal distance the earlier position first. -/
def before (D : Fin n → EReal) (k k' : Fin n) : Bool :=
  decide (D k < D k') || (decide (D k = D k') && decide (k < k'))

theorem before_total (D : Fin n → EReal) : StrictTotalBefore (before D) :=
  StrictTotalBefore.of_key_then_position (fun a b : EReal => decide (a < b)) D (by simp)
    (by simp only [decide_eq_true_eq]; exact fun a b c => lt_trans)
    (by simp only [decide_eq_true_eq]; exact fun a b => lt_trichotomy a b)

/-- On a list in position order the stable sort by distance alone is the sort by distance and position. -/
theorem stableSort_before (D : Fin n → EReal) (l : List (Fin n)) (hl : l.Pairwise (· < ·)) :
    stableSort (fun k k' => decide (D k < D k')) l = stableSort (before D) l := by
  induction l with
  | nil => rfl
  | cons a l ih =>
    obtain ⟨ha, hp⟩ := List.pairwise_cons.mp hl
    simp only [stableSort]
    rw [ih hp]
    refine insertBefore_congr _ _ _ _ fun b hb => ?_
    have : a < b := ha b ((perm_stableSort _ l).mem_iff.mp hb)
    simp [before, not_lt.mpr this.le]

/-- The choices, in order, are the first places of a stable ascending sort. -/
theorem sortedFrom_eq_sel [NeZero n] (D : Fin n → EReal) (hD : ∀ l, D l < ⊤) (k : Nat) (hk : k ≤ n) (i : Fin k) :
    sortedFrom (fun a b => decide (D a < D b)) (i.castLE hk) = sel D i := by
  have e : sortedFrom (fun a b => decide (D a < D b)) = sortedFrom (before D) := by
    have h : sortPositions n (fun a b => decide (D a < D b)) = sortPositions n (before D) :=
      stableSort_before D (List.finRange n) (List.pairwise_lt_finRange n)
    funext k
    simp only [sortedFrom, List.get_eq_getElem, Fin.val_cast, h]
  rw [e]
  refine (before_total D).sortedFrom_eq_of_prefix hk (fun i => sel D i) ?_ ?_ ?_ i
  · intro a b hab
    rcases lt_trichotomy a b with h | h | h
    · exact absurd hab (sel_fresh D hD b (by omega) a h)
    · exact h
    · exact absurd hab.symm (sel_fresh D hD a (by omega) b h)
  · intro a b hab
    obtain ⟨h1, h2⟩ := sel_least D hD a (by omega) (sel D b) fun j hj => sel_fresh D hD b (by omega) j (hj.trans hab)
    simp only [before, Bool.or_eq_false_iff, Bool.and_eq_false_iff, decide_eq_false_iff_not, not_lt]
    refine ⟨h1, ?_⟩
    by_cases h : D (sel D b) = D (sel D a)
    · exact Or.inr (h2 h)
    · exact Or.inl h
  · intro a p hp
    obtain ⟨h1, h2⟩ := sel_least D hD a (by omega) p fun j hj => hp ⟨j, by omega⟩
    simp only [before, Bool.or_eq_false_iff, Bool.and_eq_false_iff, decide_eq_false_iff_not, not_lt]
    refine ⟨h1, ?_⟩
    by_cases h : D p = D (sel D a)
    · exact Or.inr (h2 h)
    · exact Or.inl h

end Cert.Proof.Select

end
-- ==== Proof.KernelChoice.lean ====
/- One step of the choice read at an index, at the ideal values: the chosen column is the row's first least entry, and the
   rows after `s` steps are the rows of the abstract choice. -/
module

public import proofs.«01_k».proof.Proof.Consts
public import proofs.«01_k».proof.Proof.Select
public import Idealize.ShloMosaic.Lib.Pointwise
public import Idealize.ShloMosaic.Lib.SortNet.Extract

@[expose] public section

set_option maxRecDepth 16384

noncomputable section

namespace Cert.Proof.KB

open Idealize.ShloMosaic Idealize.ShloMosaic.TcCoe Idealize.ShloMosaic.Tactic Idealize.SL.Sem
open Cert.KernelIdeal Cert.KernelIdeal.Gen

/-- Row `q` of a block of distances. -/
def row (w : FVec Ideal S64x512 .f32) (q : Fin 64) : Fin 512 → EReal := fun l => w (ix2 q l)

theorem rowMin_apply (w : FVec Ideal S64x512 .f32) (q : Fin 64) (l : Fin 512) :
    rowMin w (ix2 q l) = row w q (Select.amin (row w q)) := by
  pointwise [rowMin]
  rw [Consts.infinity]
  refine le_antisymm ?_ ?_
  · exact (Finset.fold_min_le _).mpr (Or.inr ⟨Select.amin (row w q), Finset.mem_univ _, le_rfl⟩)
  · exact (Finset.le_fold_min _).mpr ⟨le_top, fun x _ => Select.amin_le (row w q) x⟩

/-- The signed minimum of a list of words is one of them, or the starting word, and not above any. -/
theorem fold_minsi {ι : Type} [DecidableEq ι] (b : BitVec 32) (f : ι → BitVec 32) (s : Finset ι) :
    (∀ x ∈ s, (s.fold IntOp.minsi b f).toInt ≤ (f x).toInt)
      ∧ (s.fold IntOp.minsi b f = b ∨ ∃ x ∈ s, s.fold IntOp.minsi b f = f x) := by
  induction s using Finset.induction_on with
  | empty => simp
  | insert a s ha ih =>
    obtain ⟨h1, h2⟩ := ih
    rw [Finset.fold_insert ha]
    by_cases h : (f a).toInt ≤ (s.fold IntOp.minsi b f).toInt
    · have e : IntOp.minsi (f a) (s.fold IntOp.minsi b f) = f a := by
        apply BitVec.eq_of_toInt_eq; rw [SortNet.toInt_minsi]; exact min_eq_left h
      rw [e]
      refine ⟨fun x hx => ?_, Or.inr ⟨a, Finset.mem_insert_self _ _, rfl⟩⟩
      rcases Finset.mem_insert.mp hx with rfl | hx
      · exact le_rfl
      · exact h.trans (h1 x hx)
    · have e : IntOp.minsi (f a) (s.fold IntOp.minsi b f) = s.fold IntOp.minsi b f := by
        apply BitVec.eq_of_toInt_eq; rw [SortNet.toInt_minsi]; exact min_eq_right (le_of_not_ge h)
      rw [e]
      refine ⟨fun x hx => ?_, h2.imp id fun ⟨x, hx, e⟩ => ⟨x, Finset.mem_insert_of_mem hx, e⟩⟩
      rcases Finset.mem_insert.mp hx with rfl | hx
      · exact le_of_not_ge h
      · exact h1 x hx

theorem toInt_small (n : Nat) (hn : n < 1024) : (BitVec.ofNat 32 n).toInt = n := by
  rw [BitVec.toInt_ofNat']
  norm_num [Int.bmod_def]
  omega

theorem first_apply (w : FVec Ideal S64x512 .f32) (q : Fin 64) :
    first w (ix2 q 0) = BitVec.ofNat 32 (Select.amin (row w q)).val := by
  pointwise [first, lanes]
  set a := Select.amin (row w q) with ha
  have hf : ∀ x : Fin 512, (if w (ix2 q x) = rowMin w (ix2 q x) then BitVec.ofNat 32 x.val else 512#32)
      = if row w q x = row w q a then BitVec.ofNat 32 x.val else 512#32 := fun x => by rw [rowMin_apply]; rfl
  simp only [hf]
  obtain ⟨h1, h2⟩ := fold_minsi 2147483647#32
    (fun x : Fin 512 => if row w q x = row w q a then BitVec.ofNat 32 x.val else 512#32) Finset.univ
  have h3 := h1 a (Finset.mem_univ a)
  simp only [if_true] at h3
  rw [toInt_small a.val (by omega)] at h3
  apply BitVec.eq_of_toInt_eq
  rw [toInt_small a.val (by omega)]
  refine le_antisymm h3 ?_
  rcases h2 with h2 | ⟨x, -, h2⟩
  · rw [h2]; have : (2147483647#32 : BitVec 32).toInt = 2147483647 := by decide
    rw [this]; omega
  · rw [h2]
    split
    · next hx => rw [toInt_small x.val (by omega)]; exact_mod_cast Select.amin_first (row w q) x hx
    · have : (512#32 : BitVec 32).toInt = 512 := by decide
      rw [this]; omega

theorem hit_apply (w : FVec Ideal S64x512 .f32) (q : Fin 64) (l : Fin 512) :
    hit w (ix2 q l) = if l = Select.amin (row w q) then 1#1 else 0#1 := by
  pointwise [hit, lanes]
  rw [first_apply]
  have hiff : BitVec.ofNat 32 l.val = BitVec.ofNat 32 (Select.amin (row w q)).val ↔ l = Select.amin (row w q) := by
    constructor
    · intro h
      have := congrArg BitVec.toInt h
      rw [toInt_small _ (by omega), toInt_small _ (by omega)] at this
      exact Fin.ext (by exact_mod_cast this)
    · intro h; rw [h]
  by_cases h : l = Select.amin (row w q)
  · rw [if_pos h]; simp [IntOp.cmpi, hiff.mpr h]
  · rw [if_neg h]
    simp [IntOp.cmpi, beq_eq_false_iff_ne.mpr (mt hiff.mp h)]

theorem oneHot_apply (w : FVec Ideal S64x512 .f32) (q : Fin 64) (l : Fin 512) :
    oneHot w (ix2 q l) = if l = Select.amin (row w q) then 1 else 0 := by
  pointwise [oneHot]
  rw [hit_apply]
  split <;> simp [FloatOps.sitofp]

theorem row_next (w : FVec Ideal S64x512 .f32) (q : Fin 64) :
    row (next w) q = fun l => if l = Select.amin (row w q) then ⊤ else row w q l := by
  funext l
  show next w (ix2 q l) = _
  pointwise [next]
  rw [hit_apply, Consts.infinity]
  by_cases h : l = Select.amin (row w q) <;> simp [h, row, Scalar.select_def]

theorem row_chain (d : FVec Ideal S64x512 .f32) (q : Fin 64) (s : Nat) : row (chain d s) q = Select.work (row d q) s := by
  induction s with
  | zero => rfl
  | succ s ih => rw [chain, row_next, ih]; rfl

/-- The chosen columns, as words. -/
theorem idxBlock_apply (d : FVec Ideal S64x512 .f32) (q : Fin 64) (k : Fin 30) :
    idxBlock d (ix3 0 q k) = BitVec.ofNat 32 (Select.sel (row d q) k.val).val := by
  have e : idxBlock d (ix3 0 q k) = first (chain d k.val) (ix2 q 0) := by
    pointwise [idxBlock]
  rw [e, first_apply, row_chain]; rfl

theorem marks_apply (d : FVec Ideal S64x512 .f32) (r : Fin 1920) (l : Fin 512) :
    marks d (ix2 r l)
      = if l = Select.sel (row d ⟨r.val % 64, by omega⟩) (r.val / 64) then 1 else 0 := by
  have e : marks d (ix2 r l) = oneHot (chain d (r.val / 64)) (ix2 ⟨r.val % 64, by omega⟩ l) := by
    have hr : r.val / 64 < 30 := by omega
    unfold marks
    exact concatenate_ofFn_apply (t := S1920x512) (s₁ := S64x512) 0 (fun s : Fin 30 => oneHot (chain d s.val)) _ rfl 64 rfl
      (ix2 r l) ⟨r.val / 64, hr⟩ rfl (ix2 ⟨r.val % 64, by omega⟩ l) rfl (fun b hb => by
        fin_cases b
        · exact absurd rfl hb
        · rfl)
  rw [e, oneHot_apply, row_chain]; rfl

end Cert.Proof.KB

end
-- ==== Proof.KernelIdx.lean ====
/- The point's own values read at an index, at the ideal values. -/
module

public import proofs.«01_k».proof.Proof.KernelChoice

@[expose] public section

set_option maxRecDepth 16384

noncomputable section

namespace Cert.Proof.KB

open Idealize.ShloMosaic Idealize.ShloMosaic.TcCoe Idealize.ShloMosaic.Tactic Idealize.SL.Sem
open Cert.KernelIdeal Cert.KernelIdeal.Gen

/-- The small summand under the distances' roots. -/
abbrev epsW : EReal := Ideal.ofBits .f32 0x358637BD#32

/-- The query row's coordinate in the whole sequence. -/
def rowOf (i : grid0.Coords) (q : Fin 64) : Fin 512 :=
  ⟨64 * (i 1).val + q.val, by have : (i 1).val < 8 := (i 1).isLt; omega⟩

/-- A distance: the root of the three squared differences. -/
def dist3 (a0 b0 a1 b1 a2 b2 : EReal) : EReal :=
  Ideal.sqrt ((a0 - b0) * (a0 - b0) + (a1 - b1) * (a1 - b1) + (a2 - b2) * (a2 - b2) + epsW)

theorem dist_apply (i : grid0.Coords) (x0 : Vec Ideal S1x3x512 .f32) (x1 : Vec Ideal S1x3x512x14 .f32) (q : Fin 64) (l : Fin 512) :
    dist i x0 x1 (ix2 q l) = dist3 (x1 (ix4 0 0 (rowOf i q) 1)) (x0 (ix3 0 0 l)) (x1 (ix4 0 1 (rowOf i q) 1)) (x0 (ix3 0 1 l))
      (x1 (ix4 0 2 (rowOf i q) 1)) (x0 (ix3 0 2 l)) := by
  pointwise [dist, k0_pay2]
  have h1 := k0_off1_eq i
  have h2 := k0_off2_eq i
  have h3 := k0_off3_eq i
  simp only [h1, h2, h3]
  rfl

/-- One coordinate of the query's atoms as the body reads them. -/
theorem query_apply (i : grid0.Coords) (x1 : Vec Ideal S1x3x512x14 .f32) (c : Fin 3) (off : Fin 4 → Nat)
    (h : off = ![0, c.val, 64 * (i 1).val, 0]) (hb : ∀ a, off a + S1x1x64x14.size a ≤ S1x3x512x14.size a) (q : Fin 64) (a : Fin 14) :
    View.ld x1 (Rect.unit (s := S1x3x512x14) off S1x1x64x14.size hb) (ix4 0 0 q a) = x1 (ix4 0 c (rowOf i q) a) := by
  subst h
  pointwise []
  refine congrArg x1 ?_
  idx_ext

/-- The query of a stacked row. -/
def qOf (r : Fin 1920) : Fin 64 := ⟨r.val % 64, by omega⟩

/-- The column a stacked row chose. -/
def pick (d : FVec Ideal S64x512 .f32) (r : Fin 1920) : Fin 512 := Select.sel (row d (qOf r)) (r.val / 64)

/-- The products with the one-hot rows read off the chosen row, where the table's column is finite. -/
theorem gathered_apply (d : FVec Ideal S64x512 .f32) (x : Vec Ideal S1x512x80 .f32) (r : Fin 1920) (f : Fin 80)
    (hx : ∀ l, ∃ v : ℝ, x (ix3 0 l f) = (v : EReal)) : gathered d x (ix2 r f) = x (ix3 0 (pick d r) f) := by
  pointwise [gathered]
  have h0 : ∀ l, x (ix3 0 l f) - x (ix3 0 l f) = 0 := fun l => by
    obtain ⟨v, hv⟩ := hx l
    rw [hv, ← EReal.coe_sub, sub_self, EReal.coe_zero]
  simp only [h0, mul_zero, Finset.sum_const_zero, add_zero, marks_apply, ite_mul, one_mul, zero_mul]
  rw [Finset.sum_ite_eq']
  simp only [Finset.mem_univ, if_true]
  rfl

theorem rep16_apply (u : Vec Ideal S64x16 .f32) (r : Fin 1920) (f : Fin 16) : rep16 u (ix2 r f) = u (ix2 (qOf r) f) := by
  have hr : r.val / 64 < 30 := by omega
  have e : rep16 u (ix2 r f) = shapeCast S64x16 u shapeCasts_S64x16_S64x16 (ix2 (qOf r) f) :=
    concatenate_ofFn_apply (t := S1920x16) (s₁ := S64x16) 0 (fun _ : Fin 30 => shapeCast S64x16 u shapeCasts_S64x16_S64x16) _ rfl 64 rfl
      (ix2 r f) ⟨r.val / 64, hr⟩ rfl (ix2 (qOf r) f) rfl (fun b hb => by
        fin_cases b
        · exact absurd rfl hb
        · rfl)
  rw [e]
  pointwise []

theorem posFeat_apply (g : FVec Ideal S1920x80 .f32) (u v : Vec Ideal S64x16 .f32) (r : Fin 1920) (f : Fin 16) :
    posFeat g u v (ix2 r f) = g (ix2 r ⟨48 + f.val, by omega⟩) * u (ix2 (qOf r) f)
      + g (ix2 r ⟨64 + f.val, by omega⟩) * v (ix2 (qOf r) f) := by
  rw [← rep16_apply u, ← rep16_apply v]
  pointwise! [posFeat]

theorem nbAtoms_apply (s : FVec Ideal S1920x14 .f32) (r : Fin 1920) (p : Fin 196) :
    nbAtoms s (ix2 r p) = s (ix2 r ⟨p.val % 14, by omega⟩) := by
  have hp : p.val / 14 < 14 := by omega
  exact concatenate_ofFn_apply (t := S1920x196) (s₁ := S1920x14) 1 (fun _ : Fin 14 => s) _ rfl 14 rfl
      (ix2 r p) ⟨p.val / 14, hp⟩ rfl (ix2 r ⟨p.val % 14, by omega⟩) rfl (fun b hb => by
        fin_cases b
        · rfl
        · exact absurd rfl hb)

theorem qAtoms_apply (q : Vec Ideal S1x1x64x14 .f32) (e : Vec Ideal S14x196 .f32) (r : Fin 1920) (p : Fin 196) :
    qAtoms q e (ix2 r p) = ∑ a : Fin 14, q (ix4 0 0 (qOf r) a) * e (ix2 a p) := by
  have hr : r.val / 64 < 30 := by omega
  have h := concatenate_ofFn_apply (t := S1920x196) (s₁ := S64x196) 0 (fun _ : Fin 30 => matmul (F := Ideal) (φ₁ := .f32) (φ₂ := .f32) dot_S64x14_S14x196_S64x196_1_0_0_1_n_n (some .fp32) (shapeCast S64x14 q shapeCasts_S1x1x64x14_S64x14) e
        (constant S64x196 .f32 0x00000000#32)) concatenates_S64x196_S64x196_S64x196_S64x196_S64x196_S64x196_S64x196_S64x196_S64x196_S64x196_S64x196_S64x196_S64x196_S64x196_S64x196_S64x196_S64x196_S64x196_S64x196_S64x196_S64x196_S64x196_S64x196_S64x196_S64x196_S64x196_S64x196_S64x196_S64x196_S64x196_S1920x196_d0 rfl 64 rfl
      (ix2 r p) ⟨r.val / 64, hr⟩ rfl (ix2 (qOf r) p) rfl (fun b hb => by
        fin_cases b
        · exact absurd rfl hb
        · rfl)
  refine Eq.trans h ?_
  pointwise []

theorem scaled_apply (g : FVec Ideal S1920x80 .f32) (q0 q1 q2 : Vec Ideal S1x1x64x14 .f32) (e : Vec Ideal S14x196 .f32) (r : Fin 1920)
    (p : Fin 196) :
    scaled g q0 q1 q2 e (ix2 r p)
      = dist3 (∑ a : Fin 14, q0 (ix4 0 0 (qOf r) a) * e (ix2 a p)) (g (ix2 r ⟨p.val % 14, by omega⟩))
          (∑ a : Fin 14, q1 (ix4 0 0 (qOf r) a) * e (ix2 a p)) (g (ix2 r ⟨16 + p.val % 14, by omega⟩))
          (∑ a : Fin 14, q2 (ix4 0 0 (qOf r) a) * e (ix2 a p)) (g (ix2 r ⟨32 + p.val % 14, by omega⟩))
        * Named.named κ "inv_sigma" 0x3F4CCCCD#32 := by
  have h : ∀ s : FVec Ideal S1920x14 .f32, ∀ q : Vec Ideal S1x1x64x14 .f32, diff s q e (ix2 r p)
      = (∑ a : Fin 14, q (ix4 0 0 (qOf r) a) * e (ix2 a p)) - s (ix2 r ⟨p.val % 14, by omega⟩) := fun s q => by
    rw [← qAtoms_apply, ← nbAtoms_apply s r p]; rfl
  pointwise [scaled]
  simp only [h]
  pointwise [dist3]

/-- A radial function's value. -/
def rbfK (u : EReal) (k : Fin 16) : EReal := Ideal.exp (u * lin (F := Ideal) k + ((0 - u * u) - sq (F := Ideal) k))

theorem wr_apply (x : Vec Ideal S16x196x128 .f32) (k : Fin 16) (p : Fin 196) (h : Fin 128) :
    wr x k (ix3 0 p h) = x (ix3 k p h) := by
  pointwise [wr]

theorem rbfStep_apply (u w : FVec Ideal S1920x196 .f32) (acc : FVec Ideal S1920x128 .f32) (p : EReal × EReal × Vec Ideal S1x196x128 .f32)
    (r : Fin 1920) (h : Fin 128) :
    rbfStep (F := Ideal) u w acc p (ix2 r h)
      = acc (ix2 r h) + ∑ x : Fin 196, Ideal.exp (u (ix2 r x) * p.1 + (w (ix2 r x) - p.2.1)) * p.2.2 (ix3 0 x h) := by
  pointwise [rbfStep]

theorem fold_apply (u w : FVec Ideal S1920x196 .f32) (r : Fin 1920) (h : Fin 128) (L : List (EReal × EReal × Vec Ideal S1x196x128 .f32))
    (acc : FVec Ideal S1920x128 .f32) :
    L.foldl (rbfStep (F := Ideal) u w) acc (ix2 r h)
      = acc (ix2 r h) + (L.map fun p => ∑ x : Fin 196, Ideal.exp (u (ix2 r x) * p.1 + (w (ix2 r x) - p.2.1)) * p.2.2 (ix3 0 x h)).sum := by
  induction L generalizing acc with
  | nil => simp
  | cons p L ih => rw [List.foldl_cons, ih, rbfStep_apply, List.map_cons, List.sum_cons, add_assoc]

theorem emb_apply (p : FVec Ideal S1920x16 .f32) (u : FVec Ideal S1920x196 .f32) (wpe : Vec Ideal S16x128 .f32)
    (x : Vec Ideal S16x196x128 .f32) (r : Fin 1920) (h : Fin 128) :
    emb p u wpe x (ix2 r h) = (∑ f : Fin 16, p (ix2 r f) * wpe (ix2 f h))
      + ∑ k : Fin 16, ∑ y : Fin 196, rbfK (u (ix2 r y)) k * x (ix3 k y h) := by
  unfold emb
  rw [fold_apply, List.map_ofFn, List.sum_ofFn]
  congr 1
  · pointwise []
  · refine Finset.sum_congr rfl fun k _ => Finset.sum_congr rfl fun y _ => ?_
    show Ideal.exp _ * wr x k (ix3 0 y h) = _
    rw [wr_apply]
    pointwise [rbfK]

/-- The layer normalisation as the kernel does it. -/
def lnK (e : Fin 128 → EReal) (g b : EReal) (h : Fin 128) : EReal :=
  (e h - Ideal.div (∑ x, e x) (Ideal.ofBits .f32 0x43000000#32))
    * Ideal.rsqrt (Ideal.div (∑ x, (e x - Ideal.div (∑ y, e y) (Ideal.ofBits .f32 0x43000000#32))
        * (e x - Ideal.div (∑ y, e y) (Ideal.ofBits .f32 0x43000000#32))) (Ideal.ofBits .f32 0x43000000#32)
      + Ideal.ofBits .f32 0x3727C5AC#32) * g + b

theorem normed_apply (x : FVec Ideal S1920x128 .f32) (g b : Vec Ideal S1x128 .f32) (k : Fin 30) (q : Fin 64) (h : Fin 128) :
    normed x g b (ix4 0 k q h)
      = lnK (fun h => x (ix2 ⟨k.val * 64 + q.val, by omega⟩ h)) (g (ix2 0 h)) (b (ix2 0 h)) h := by
  pointwise! [normed, centred, rowMean, lnK]

end Cert.Proof.KB

end
-- ==== Proof.HostArgs.lean ====
/- What the region finds in its nine arrays, read at an index, from the arguments. -/
module

public import proofs.«01_k».proof.Proof.Gen.KernelIdeal.Frame
public import proofs.«01_k».proof.Proof.Consts
public import Idealize.ShloMosaic.Lib.Pointwise
public import Idealize.ShloMosaic.Lib.Pipeline.ValueKit
public import Idealize.ShloMosaic.Lib.Claim

@[expose] public section

set_option maxRecDepth 16384

noncomputable section

namespace Cert.Proof.Host

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ) (c : Dev nD)

/-- The eight frequencies. -/
def freqs : FVec Ideal S8 .f32 :=
  Host.exp (mulf (addf (broadcastInDim S8 ![] bcast_S_S8 (constant (F := Ideal) S_ .f32 0x00000000#32))
      (mulf (broadcastInDim S8 ![] bcast_S_S8 (constant (F := Ideal) S_ .f32 0x40000000#32)) (sitofp .f32 (iotaInDim S8 32 0))))
    (broadcastInDim S8 ![] bcast_S_S8 (constant (F := Ideal) S_ .f32 0xBF135D8E#32)))

/-- The angle of every position at every frequency. -/
def angles : FVec Ideal S512x8 .f32 :=
  mulf (broadcastInDim S512x8 ![0, 1] bcast_S512x1_S512x8_0_1 (broadcastInDim S512x1 ![0] bcast_S512_S512x1_0
      (sitofp (F := Ideal) .f32 (iotaInDim S512 32 0))))
    (broadcastInDim S512x8 ![0, 1] bcast_S1x8_S512x8_0_1 (broadcastInDim S1x8 ![1] bcast_S8_S1x8_1 freqs))

/-- Cosines, then sines. -/
def cosSin : FVec Ideal S512x16 .f32 :=
  concatenate S512x16 1 [⟨S512x8, Host.cos angles⟩, ⟨S512x8, Host.sin angles⟩] concatenates_S512x8_S512x8_S512x16_d1

/-- Sines, then cosines. -/
def sinCos : FVec Ideal S512x16 .f32 :=
  concatenate S512x16 1 [⟨S512x8, Host.sin angles⟩, ⟨S512x8, Host.cos angles⟩] concatenates_S512x8_S512x8_S512x16_d1

/-- The coordinates of the 14 atoms, padded to 16, coordinate by coordinate. -/
def atoms48 (x : FVec Ideal S2x512x14x3 .f32) : FVec Ideal S2x512x48 .f32 :=
  shapeCast S2x512x48 (pad S2x512x3x16 ![0, 0, 0, 0] ![0, 0, 0, 2] ![0, 0, 0, 0]
    (transpose S2x512x3x14 [0, 1, 3, 2] x transposes_S2x512x14x3_S2x512x3x14_0_1_3_2)
    (sitofp (F := Ideal) .f32 (constantI S_ 32 0#32)) pads_S2x512x3x14_S2x512x3x16_000_000_000_020 h_S_) shapeCasts_S2x512x3x16_S2x512x48

/-- The neighbours' 80 features. -/
def feats (x : FVec Ideal S2x512x14x3 .f32) : FVec Ideal S2x512x80 .f32 :=
  concatenate S2x512x80 2 [⟨S2x512x48, atoms48 x⟩,
    ⟨S2x512x32, broadcastInDim S2x512x32 ![0, 1, 2] bcast_S1x512x32_S2x512x32_0_1_2 (broadcastInDim S1x512x32 ![1, 2] bcast_S512x32_S1x512x32_1_2
      (concatenate S512x32 1 [⟨S512x16, cosSin⟩, ⟨S512x16, sinCos⟩] concatenates_S512x16_S512x16_S512x32_d1))⟩]
    concatenates_S2x512x48_S2x512x32_S2x512x80_d2

/-- The queries' tables. -/
def tables : FVec Ideal S512x32 .f32 :=
  concatenate S512x32 1 [⟨S512x8, Host.cos angles⟩, ⟨S512x8, Host.cos angles⟩, ⟨S512x8, Host.sin angles⟩,
    ⟨S512x8, Host.negf (Host.sin angles)⟩] concatenates_S512x8_S512x8_S512x8_S512x8_S512x32_d1

theorem V_v31 : V m c main_v31 = feats (m ((c : Thread nD τ).loc main_arg0)) := by
  sl_kernel_rfl

theorem V_v33 : V m c main_v33 = tables := by
  sl_kernel_rfl

/-- One frequency. -/
def freqE (f : Fin 8) : EReal :=
  Ideal.exp (Ideal.ofBits .f32 0x40000000#32 * FloatOps.sitofp (F := Ideal) .f32 (BitVec.ofNat 32 f.val) * Ideal.ofBits .f32 0xBF135D8E#32)

/-- One position's angle at one frequency. -/
def angleE (l : Fin 512) (f : Fin 8) : EReal := FloatOps.sitofp (F := Ideal) .f32 (BitVec.ofNat 32 l.val) * freqE f

theorem angles_apply (l : Fin 512) (f : Fin 8) : angles (ix2 l f) = angleE l f := by
  pointwise [angles, angleE, freqs, freqE]

/-- A coordinate of an atom among the features. -/
theorem feats_atom (x : FVec Ideal S2x512x14x3 .f32) (b : Fin 2) (l : Fin 512) (k : Fin 3) (a : Fin 14) (f : Fin 80)
    (hf : f.val = 16 * k.val + a.val) : feats x (ix3 b l f) = x (ix4 b l a k) := by
  pointwise [feats, atoms48]
  rw [dif_pos (show f.val < 48 by omega), dif_pos (show f.val / 16 < 3 ∧ f.val % 16 < 14 by omega)]
  refine congrArg x ?_
  congr 1 <;> exact Fin.ext (by simp only []; omega)

/-- The first table: cosines, then sines. -/
theorem feats_first (x : FVec Ideal S2x512x14x3 .f32) (b : Fin 2) (l : Fin 512) (g : Fin 16) (f : Fin 80) (hf : f.val = 48 + g.val) :
    feats x (ix3 b l f) = if g.val < 8 then Ideal.cos (angleE l ⟨g.val % 8, by omega⟩) else Ideal.sin (angleE l ⟨g.val % 8, by omega⟩) := by
  pointwise [feats, cosSin, angles_apply]
  rw [dif_neg (show ¬ f.val < 48 by omega), dif_pos (show f.val - 48 < 16 by omega)]
  by_cases h : g.val < 8
  · rw [dif_pos (show f.val - 48 < 8 by omega), if_pos h]
    congr 2; exact Fin.ext (by simp only []; omega)
  · rw [dif_neg (show ¬ f.val - 48 < 8 by omega), if_neg h]
    congr 2; exact Fin.ext (by simp only []; omega)

/-- The second table: sines, then cosines. -/
theorem feats_second (x : FVec Ideal S2x512x14x3 .f32) (b : Fin 2) (l : Fin 512) (g : Fin 16) (f : Fin 80) (hf : f.val = 64 + g.val) :
    feats x (ix3 b l f) = if g.val < 8 then Ideal.sin (angleE l ⟨g.val % 8, by omega⟩) else Ideal.cos (angleE l ⟨g.val % 8, by omega⟩) := by
  pointwise [feats, sinCos, angles_apply]
  rw [dif_neg (show ¬ f.val < 48 by omega), dif_neg (show ¬ f.val - 48 < 16 by omega)]
  by_cases h : g.val < 8
  · rw [dif_pos (show f.val - 48 - 16 < 8 by omega), if_pos h]
    congr 2; exact Fin.ext (by simp only []; omega)
  · rw [dif_neg (show ¬ f.val - 48 - 16 < 8 by omega), if_neg h]
    congr 2; exact Fin.ext (by simp only []; omega)

/-- The query's first table: cosines twice. -/
theorem tables_first (l : Fin 512) (g : Fin 16) (f : Fin 32) (hf : f.val = g.val) :
    tables (ix2 l f) = Ideal.cos (angleE l ⟨g.val % 8, by omega⟩) := by
  pointwise [tables, angles_apply]
  by_cases h : g.val < 8
  · rw [dif_pos (show f.val < 8 by omega)]
    congr 2; exact Fin.ext (by simp only []; omega)
  · rw [dif_neg (show ¬ f.val < 8 by omega), dif_pos (show f.val - 8 < 8 by omega)]
    congr 2; exact Fin.ext (by simp only []; omega)

/-- The query's second table: sines, then sines negated. -/
theorem tables_second (l : Fin 512) (g : Fin 16) (f : Fin 32) (hf : f.val = 16 + g.val) :
    tables (ix2 l f) = if g.val < 8 then Ideal.sin (angleE l ⟨g.val % 8, by omega⟩) else -Ideal.sin (angleE l ⟨g.val % 8, by omega⟩) := by
  pointwise [tables, angles_apply]
  rw [dif_neg (show ¬ f.val < 8 by omega), dif_neg (show ¬ f.val - 8 < 8 by omega)]
  by_cases h : g.val < 8
  · rw [dif_pos (show f.val - 8 - 8 < 8 by omega), if_pos h]
    congr 2; exact Fin.ext (by simp only []; omega)
  · rw [dif_neg (show ¬ f.val - 8 - 8 < 8 by omega), if_neg h]
    congr 3; exact Fin.ext (by simp only []; omega)

theorem V_v2 (b : Fin 2) (k : Fin 3) (l : Fin 512) :
    V m c main_v2 (ix3 b k l) = (m ((c : Thread nD τ).loc main_arg0)) (ix4 b l 1 k) := by
  have e : V m c main_v2 = shapeCast S2x3x512 (extractStridedSlice S2x3x512x1 ![0, 0, 0, 1]
      (transpose S2x3x512x14 [0, 3, 1, 2] (m ((c : Thread nD τ).loc main_arg0)) transposes_S2x512x14x3_S2x3x512x14_0_3_1_2)
      slices_S2x3x512x14_S2x3x512x1_0_0_0_1) shapeCasts_S2x3x512x1_S2x3x512 := by sl_kernel_rfl
  rw [e]
  pointwise []

theorem V_v0 (b : Fin 2) (k : Fin 3) (l : Fin 512) (a : Fin 14) :
    V m c main_v0 (ix4 b k l a) = (m ((c : Thread nD τ).loc main_arg0)) (ix4 b l a k) := by
  have e : V m c main_v0 = transpose S2x3x512x14 [0, 3, 1, 2] (m ((c : Thread nD τ).loc main_arg0))
      transposes_S2x512x14x3_S2x3x512x14_0_3_1_2 := by sl_kernel_rfl
  rw [e]
  pointwise []

theorem V_v35 (f : Fin 16) (h : Fin 128) :
    V m c main_v35 (ix2 f h) = (m ((c : Thread nD τ).loc main_arg3)) (ix2 h ⟨f.val, by omega⟩) := by
  have e : V m c main_v35 = transpose S16x128 [1, 0] (extractStridedSlice S128x16 ![0, 0] (m ((c : Thread nD τ).loc main_arg3))
      slices_S128x3152_S128x16_0_0) transposes_S128x16_S16x128_1_0 := by sl_kernel_rfl
  rw [e]
  pointwise []

theorem V_v39 (k : Fin 16) (p : Fin 196) (h : Fin 128) :
    V m c main_v39 (ix3 k p h) = (m ((c : Thread nD τ).loc main_arg3)) (ix2 h ⟨16 + (p.val * 16 + k.val), by omega⟩) := by
  have e : V m c main_v39 = transpose S16x196x128 [1, 0, 2] (shapeCast S196x16x128 (transpose S3136x128 [1, 0]
      (extractStridedSlice S128x3136 ![0, 16] (m ((c : Thread nD τ).loc main_arg3)) slices_S128x3152_S128x3136_0_16)
      transposes_S128x3136_S3136x128_1_0) shapeCasts_S3136x128_S196x16x128) transposes_S196x16x128_S16x196x128_1_0_2 := by sl_kernel_rfl
  rw [e]
  pointwise []

theorem V_v40 (h : Fin 128) : V m c main_v40 (ix2 0 h) = (m ((c : Thread nD τ).loc main_arg4)) (ix1 h) := by
  have e : V m c main_v40 = shapeCast S1x128 (m ((c : Thread nD τ).loc main_arg4)) shapeCasts_S128_S1x128 := by sl_kernel_rfl
  rw [e]
  pointwise []

theorem V_v41 (h : Fin 128) : V m c main_v41 (ix2 0 h) = (m ((c : Thread nD τ).loc main_arg5)) (ix1 h) := by
  have e : V m c main_v41 = shapeCast S1x128 (m ((c : Thread nD τ).loc main_arg5)) shapeCasts_S128_S1x128 := by sl_kernel_rfl
  rw [e]
  pointwise []

theorem lit0_eq : ∀ i : Fin 2744, lit0 i = if i.val % 196 / 14 = i.val / 196 then 0x3F800000#32 else 0x00000000#32 := by
  decide +kernel

/-- The constant that spreads the query's atoms over the pairs. -/
def spread : FVec Ideal S14x196 .f32 := fun i => Ideal.ofBits .f32 (lit0 (S14x196.rowMajor i))

/-- It is one where the pair's first atom is the row, and zero elsewhere. -/
theorem spread_apply (a : Fin 14) (p : Fin 196) : spread (ix2 a p) = if p.val / 14 = a.val then 1 else 0 := by
  have hi : S14x196.rowMajor (ix2 a p) = (⟨a.val * 196 + p.val, by omega⟩ : Fin 2744) := by
    apply Fin.ext
    simp [Shape.rowMajor_val_two]
  unfold spread
  rw [hi, lit0_eq]
  have h1 : (a.val * 196 + p.val) % 196 = p.val := by omega
  have h2 : (a.val * 196 + p.val) / 196 = a.val := by omega
  simp only [h1, h2]
  split
  · exact Consts.one
  · exact Consts.zero

theorem V_cst : V m c main_cst = spread := by sl_kernel_rfl

end Cert.Proof.Host

end
-- ==== Proof.KernelArray.lean ====
/- The grid points' coordinates, and the blocks a point reads, element by element in the arrays they are cut from. -/
module

public import proofs.«01_k».proof.Proof.KernelIdx
public import proofs.«01_k».proof.Proof.HostArgs

@[expose] public section

set_option maxRecDepth 16384

noncomputable section

namespace Cert.Proof.KA

open Idealize.ShloMosaic Idealize.ShloMosaic.TcCoe Idealize.ShloMosaic.Tactic Idealize.SL.Sem
open Cert.KernelIdeal Cert.KernelIdeal.Gen Cert.Proof.KB

variable (m : (ℓ : Loc nD τ sig) → Buf (Elt Ideal) ℓ) (c : Dev nD)

/-- The point's batch. -/
def bOf (t : Fin cfg0.N) : Fin 2 := ⟨t.val / 8, by have : t.val < 16 := t.isLt; omega⟩

/-- Every window's index map at a point, and the point's coordinates. -/
theorem idx : ∀ t : Fin cfg0.N,
    (win0_0.index t 0 = t.val / 8 ∧ win0_0.index t 1 = 0 ∧ win0_0.index t 2 = 0)
    ∧ (win0_1.index t 0 = t.val / 8 ∧ win0_1.index t 1 = 0 ∧ win0_1.index t 2 = 0 ∧ win0_1.index t 3 = 0)
    ∧ (win0_2.index t 0 = t.val / 8 ∧ win0_2.index t 1 = 0 ∧ win0_2.index t 2 = 0)
    ∧ (win0_3.index t 0 = 0 ∧ win0_3.index t 1 = 0)
    ∧ (win0_4.index t 0 = t.val % 8 ∧ win0_4.index t 1 = 0)
    ∧ (win0_5.index t 0 = 0 ∧ win0_5.index t 1 = 0)
    ∧ (win0_6.index t 0 = 0 ∧ win0_6.index t 1 = 0 ∧ win0_6.index t 2 = 0)
    ∧ (win0_7.index t 0 = 0 ∧ win0_7.index t 1 = 0)
    ∧ (win0_8.index t 0 = 0 ∧ win0_8.index t 1 = 0)
    ∧ (win0_9.index t 0 = t.val / 8 ∧ win0_9.index t 1 = 0 ∧ win0_9.index t 2 = t.val % 8 ∧ win0_9.index t 3 = 0)
    ∧ (win0_10.index t 0 = t.val / 8 ∧ win0_10.index t 1 = t.val % 8 ∧ win0_10.index t 2 = 0) := by
  decide +kernel

theorem coord : ∀ t : Fin cfg0.N, (grid0.coords t 1).val = t.val % 8 := by
  decide +kernel

theorem rowOf_val (t : Fin cfg0.N) (q : Fin 64) : (rowOf (grid0.coords t) q).val = 64 * (t.val % 8) + q.val := by
  show 64 * (grid0.coords t 1).val + q.val = _
  rw [coord]

theorem blk0 (t : Fin cfg0.N) (k : Fin 3) (l : Fin 512) :
    (iblk m c 0 t : FVec Ideal S1x3x512 .f32) (ix3 0 k l) = (V m c main_v2 : FVec Ideal S2x3x512 .f32) (ix3 (bOf t) k l) := by
  blk_simp [iblk]
  refine congrArg _ ?_
  have hr := rowOf_val t
  blk_ext [idx t, bOf, hr]

theorem blk1 (t : Fin cfg0.N) (k : Fin 3) (l : Fin 512) (a : Fin 14) :
    (iblk m c 1 t : FVec Ideal S1x3x512x14 .f32) (ix4 0 k l a) = (V m c main_v0 : FVec Ideal S2x3x512x14 .f32) (ix4 (bOf t) k l a) := by
  blk_simp [iblk]
  refine congrArg _ ?_
  have hr := rowOf_val t
  blk_ext [idx t, bOf, hr]

theorem blk2 (t : Fin cfg0.N) (l : Fin 512) (f : Fin 80) :
    (iblk m c 2 t : FVec Ideal S1x512x80 .f32) (ix3 0 l f) = (V m c main_v31 : FVec Ideal S2x512x80 .f32) (ix3 (bOf t) l f) := by
  blk_simp [iblk]
  refine congrArg _ ?_
  have hr := rowOf_val t
  blk_ext [idx t, bOf, hr]

theorem blk3 (t : Fin cfg0.N) (a : Fin 14) (p : Fin 196) :
    (iblk m c 3 t : FVec Ideal S14x196 .f32) (ix2 a p) = (V m c main_cst : FVec Ideal S14x196 .f32) (ix2 a p) := by
  blk_simp [iblk]
  refine congrArg _ ?_
  have hr := rowOf_val t
  blk_ext [idx t, bOf, hr]

theorem blk4 (t : Fin cfg0.N) (q : Fin 64) (f : Fin 32) :
    (iblk m c 4 t : FVec Ideal S64x32 .f32) (ix2 q f) = (V m c main_v33 : FVec Ideal S512x32 .f32) (ix2 (rowOf (grid0.coords t) q) f) := by
  blk_simp [iblk]
  refine congrArg _ ?_
  have hr := rowOf_val t
  blk_ext [idx t, bOf, hr]

theorem blk5 (t : Fin cfg0.N) (f : Fin 16) (h : Fin 128) :
    (iblk m c 5 t : FVec Ideal S16x128 .f32) (ix2 f h) = (V m c main_v35 : FVec Ideal S16x128 .f32) (ix2 f h) := by
  blk_simp [iblk]
  refine congrArg _ ?_
  have hr := rowOf_val t
  blk_ext [idx t, bOf, hr]

theorem blk6 (t : Fin cfg0.N) (k : Fin 16) (p : Fin 196) (h : Fin 128) :
    (iblk m c 6 t : FVec Ideal S16x196x128 .f32) (ix3 k p h) = (V m c main_v39 : FVec Ideal S16x196x128 .f32) (ix3 k p h) := by
  blk_simp [iblk]
  refine congrArg _ ?_
  have hr := rowOf_val t
  blk_ext [idx t, bOf, hr]

theorem blk7 (t : Fin cfg0.N) (h : Fin 128) :
    (iblk m c 7 t : FVec Ideal S1x128 .f32) (ix2 0 h) = (V m c main_v40 : FVec Ideal S1x128 .f32) (ix2 0 h) := by
  blk_simp [iblk]
  refine congrArg _ ?_
  have hr := rowOf_val t
  blk_ext [idx t, bOf, hr]

theorem blk8 (t : Fin cfg0.N) (h : Fin 128) :
    (iblk m c 8 t : FVec Ideal S1x128 .f32) (ix2 0 h) = (V m c main_v41 : FVec Ideal S1x128 .f32) (ix2 0 h) := by
  blk_simp [iblk]
  refine congrArg _ ?_
  have hr := rowOf_val t
  blk_ext [idx t, bOf, hr]

end Cert.Proof.KA

end
-- ==== Proof.Model.lean ====
/- The kernel's two results as functions of the arguments' entries. -/
module

public import proofs.«01_k».proof.Proof.KernelArray

@[expose] public section

set_option maxRecDepth 16384

noncomputable section

namespace Cert.Proof.Model

open Idealize.ShloMosaic Idealize.ShloMosaic.TcCoe Idealize.ShloMosaic.Tactic Idealize.SL.Sem
open Cert.KernelIdeal Cert.KernelIdeal.Gen Cert.Proof.KB Cert.Proof.KA

variable (X : FVec Ideal S2x512x14x3 .f32) (W : FVec Ideal S128x3152 .f32)

/-- A residue's distances to every residue. -/
def drow (b : Fin 2) (i : Fin 512) : Fin 512 → EReal := fun j =>
  dist3 (X (ix4 b i 1 0)) (X (ix4 b j 1 0)) (X (ix4 b i 1 1)) (X (ix4 b j 1 1)) (X (ix4 b i 1 2)) (X (ix4 b j 1 2))

/-- Its neighbours, in order. -/
def nbr (b : Fin 2) (i : Fin 512) (k : Nat) : Fin 512 := Select.sel (drow X b i) k

/-- The scaled distance of a pair of atoms. -/
def pairU (b : Fin 2) (i j : Fin 512) (p : Fin 196) : EReal :=
  dist3 (X (ix4 b i ⟨p.val / 14, by omega⟩ 0)) (X (ix4 b j ⟨p.val % 14, by omega⟩ 0))
      (X (ix4 b i ⟨p.val / 14, by omega⟩ 1)) (X (ix4 b j ⟨p.val % 14, by omega⟩ 1))
      (X (ix4 b i ⟨p.val / 14, by omega⟩ 2)) (X (ix4 b j ⟨p.val % 14, by omega⟩ 2))
    * (Named.named κ "inv_sigma" 0x3F4CCCCD#32 : Ideal .f32)

/-- One positional feature. -/
def pos (i j : Fin 512) (f : Fin 16) : EReal :=
  (if f.val < 8 then Ideal.cos (Host.angleE j ⟨f.val % 8, by omega⟩) else Ideal.sin (Host.angleE j ⟨f.val % 8, by omega⟩))
      * Ideal.cos (Host.angleE i ⟨f.val % 8, by omega⟩)
    + (if f.val < 8 then Ideal.sin (Host.angleE j ⟨f.val % 8, by omega⟩) else Ideal.cos (Host.angleE j ⟨f.val % 8, by omega⟩))
      * (if f.val < 8 then Ideal.sin (Host.angleE i ⟨f.val % 8, by omega⟩) else -Ideal.sin (Host.angleE i ⟨f.val % 8, by omega⟩))

/-- One entry of an edge's embedding before normalisation. -/
def edge (b : Fin 2) (i j : Fin 512) (h : Fin 128) : EReal :=
  (∑ f : Fin 16, pos i j f * W (ix2 h ⟨f.val, by omega⟩))
    + ∑ k : Fin 16, ∑ p : Fin 196, rbfK (pairU X b i j p) k * W (ix2 h ⟨16 + (p.val * 16 + k.val), by omega⟩)

/-- Every coordinate is a real number. -/
def RealX : Prop := ∀ b i a k, ∃ v : ℝ, X (ix4 b i a k) = (v : EReal)

/-- An angle is a real number. -/
theorem angle_real (l : Fin 512) (f : Fin 8) : ∃ v : ℝ, Host.angleE l f = (v : EReal) := by
  obtain ⟨s, hs⟩ := Consts.step
  unfold Host.angleE Host.freqE
  rw [hs, Consts.two]
  refine ⟨((BitVec.ofNat 32 l.val).toInt : ℝ) * Real.exp (2 * ((BitVec.ofNat 32 f.val).toInt : ℝ) * s), ?_⟩
  simp only [FloatOps.sitofp, EReal.coe_mul]
  rfl

theorem feats_real (hX : RealX X) (b : Fin 2) (l : Fin 512) (f : Fin 80)
    (hf : f.val < 48 → f.val % 16 < 14) : ∃ v : ℝ, Host.feats X (ix3 b l f) = (v : EReal) := by
  have hc : ∀ g, ∃ v : ℝ, Ideal.cos (Host.angleE l g) = (v : EReal) := fun g => by
    obtain ⟨v, hv⟩ := angle_real l g
    exact ⟨Real.cos v, by rw [hv]; rfl⟩
  have hs : ∀ g, ∃ v : ℝ, Ideal.sin (Host.angleE l g) = (v : EReal) := fun g => by
    obtain ⟨v, hv⟩ := angle_real l g
    exact ⟨Real.sin v, by rw [hv]; rfl⟩
  by_cases h : f.val < 48
  · rw [Host.feats_atom X b l ⟨f.val / 16, by omega⟩ ⟨f.val % 16, hf h⟩ f (by simp only []; omega)]
    exact hX _ _ _ _
  · by_cases h' : f.val < 64
    · rw [Host.feats_first X b l ⟨f.val - 48, by omega⟩ f (by simp only []; omega)]
      split
      · exact hc _
      · exact hs _
    · rw [Host.feats_second X b l ⟨f.val - 64, by omega⟩ f (by simp only []; omega)]
      split
      · exact hs _
      · exact hc _

end Cert.Proof.Model

end
-- ==== Proof.KernelPoint.lean ====
/- One grid point's outputs in terms of the arguments' entries. -/
module

public import proofs.«01_k».proof.Proof.Model

@[expose] public section

set_option maxRecDepth 16384

noncomputable section

namespace Cert.Proof.KA

open Idealize.ShloMosaic Idealize.ShloMosaic.TcCoe Idealize.ShloMosaic.Tactic Idealize.SL.Sem
open Cert.KernelIdeal Cert.KernelIdeal.Gen Cert.Proof.KB Cert.Proof.Model

/-- What the seven blocks of a point hold: the entries of the arguments and the constant tables that it reads. -/
structure Blocks (X : FVec Ideal S2x512x14x3 .f32) (W : FVec Ideal S128x3152 .f32) (i : grid0.Coords) (b : Fin 2)
    (x0 : Vec Ideal S1x3x512 .f32) (x1 : Vec Ideal S1x3x512x14 .f32) (x2 : Vec Ideal S1x512x80 .f32) (x3 : Vec Ideal S14x196 .f32)
    (x4 : Vec Ideal S64x32 .f32) (x5 : Vec Ideal S16x128 .f32) (x6 : Vec Ideal S16x196x128 .f32) : Prop where
  h0 : ∀ k l, x0 (ix3 0 k l) = X (ix4 b l 1 k)
  h1 : ∀ k l a, x1 (ix4 0 k l a) = X (ix4 b l a k)
  h2 : ∀ l f, x2 (ix3 0 l f) = Host.feats X (ix3 b l f)
  h3 : ∀ a p, x3 (ix2 a p) = Host.spread (ix2 a p)
  h4 : ∀ q f, x4 (ix2 q f) = Host.tables (ix2 (rowOf i q) f)
  h5 : ∀ (f : Fin 16) (h : Fin 128), x5 (ix2 f h) = W (ix2 h ⟨f.val, by omega⟩)
  h6 : ∀ (k : Fin 16) (p : Fin 196) (h : Fin 128), x6 (ix3 k p h) = W (ix2 h ⟨16 + (p.val * 16 + k.val), by omega⟩)

section Point

variable {X : FVec Ideal S2x512x14x3 .f32} {W : FVec Ideal S128x3152 .f32} {i : grid0.Coords} {b : Fin 2}
    {x0 : Vec Ideal S1x3x512 .f32} {x1 : Vec Ideal S1x3x512x14 .f32} {x2 : Vec Ideal S1x512x80 .f32} {x3 : Vec Ideal S14x196 .f32}
    {x4 : Vec Ideal S64x32 .f32} {x5 : Vec Ideal S16x128 .f32} {x6 : Vec Ideal S16x196x128 .f32}
    (H : Blocks X W i b x0 x1 x2 x3 x4 x5 x6) (hX : RealX X)

include H

theorem row_dist (q : Fin 64) : row (dist i x0 x1) q = drow X b (rowOf i q) := by
  funext l
  show dist _ _ _ (ix2 q l) = _
  rw [dist_apply]
  simp only [H.h0, H.h1]
  rfl

theorem pick_eq (r : Fin 1920) : pick (dist i x0 x1) r = nbr X b (rowOf i (qOf r)) (r.val / 64) := by
  unfold pick nbr
  rw [row_dist H]

include hX

theorem gathered_eq (d : FVec Ideal S64x512 .f32) (r : Fin 1920) (f : Fin 80) (hf : f.val < 48 → f.val % 16 < 14) :
    gathered d x2 (ix2 r f) = Host.feats X (ix3 b (pick d r) f) := by
  rw [gathered_apply _ _ _ _ (fun l => by rw [H.h2]; exact feats_real _ hX _ _ _ hf), H.h2]

theorem pos_eq (d : FVec Ideal S64x512 .f32) (r : Fin 1920) (f : Fin 16) :
    posFeat (gathered d x2) (View.ld x4 (Rect.unit (s := S64x32) ![0, 0] S64x16.size inb_S64x32_S64x16_0_0))
        (View.ld x4 (Rect.unit (s := S64x32) ![0, 16] S64x16.size inb_S64x32_S64x16_0_16)) (ix2 r f)
      = pos (rowOf i (qOf r)) (pick d r) f := by
  rw [posFeat_apply, gathered_eq H hX d r _ (fun h => absurd h (by simp only []; omega)),
    gathered_eq H hX d r _ (fun h => absurd h (by simp only []; omega)),
    Host.feats_first _ _ _ f _ rfl, Host.feats_second _ _ _ f _ rfl]
  have e1 : View.ld x4 (Rect.unit (s := S64x32) ![0, 0] S64x16.size inb_S64x32_S64x16_0_0) (ix2 (qOf r) f)
      = x4 (ix2 (qOf r) ⟨f.val, by omega⟩) := by
    pointwise []
  have e2 : View.ld x4 (Rect.unit (s := S64x32) ![0, 16] S64x16.size inb_S64x32_S64x16_0_16) (ix2 (qOf r) f)
      = x4 (ix2 (qOf r) ⟨16 + f.val, by omega⟩) := by
    pointwise []
  rw [e1, e2, H.h4, H.h4, Host.tables_first _ f _ rfl, Host.tables_second _ f _ rfl]
  rfl

omit H hX in
theorem spread_sum (q : Fin 14 → EReal) (p : Fin 196) :
    ∑ a : Fin 14, q a * Host.spread (ix2 a p) = q ⟨p.val / 14, by omega⟩ := by
  have e : ∀ a : Fin 14, q a * Host.spread (ix2 a p) = if a = ⟨p.val / 14, by omega⟩ then q a else 0 := fun a => by
    rw [Host.spread_apply]
    by_cases h : p.val / 14 = a.val
    · rw [if_pos h, if_pos (Fin.ext h.symm), mul_one]
    · rw [if_neg h, if_neg (fun e => h (congrArg Fin.val e).symm), mul_zero]
  simp only [e]
  rw [Finset.sum_ite_eq']
  simp

theorem scaled_eq (d : FVec Ideal S64x512 .f32) (r : Fin 1920) (p : Fin 196) :
    scaled (gathered d x2)
        (View.ld x1 (Rect.unit (s := S1x3x512x14) (k0_off4 i) S1x1x64x14.size (k0_off4_inb i)))
        (View.ld x1 (Rect.unit (s := S1x3x512x14) (k0_off5 i) S1x1x64x14.size (k0_off5_inb i)))
        (View.ld x1 (Rect.unit (s := S1x3x512x14) (k0_off6 i) S1x1x64x14.size (k0_off6_inb i))) x3 (ix2 r p)
      = pairU X b (rowOf i (qOf r)) (pick d r) p := by
  rw [scaled_apply]
  simp only [H.h3, spread_sum]
  rw [query_apply i x1 0 _ (k0_off4_eq i), query_apply i x1 1 _ (k0_off5_eq i), query_apply i x1 2 _ (k0_off6_eq i), H.h1, H.h1, H.h1]
  rw [gathered_eq H hX d r _ (fun _ => by simp only []; omega), gathered_eq H hX d r _ (fun _ => by simp only []; omega),
    gathered_eq H hX d r _ (fun _ => by simp only []; omega)]
  rw [Host.feats_atom _ _ _ 0 ⟨p.val % 14, by omega⟩ _ (by simp), Host.feats_atom _ _ _ 1 ⟨p.val % 14, by omega⟩ _ (by simp),
    Host.feats_atom _ _ _ 2 ⟨p.val % 14, by omega⟩ _ (by simp)]
  rfl

theorem pointEmb_eq (r : Fin 1920) (h : Fin 128) :
    pointEmb i (dist i x0 x1) x1 x2 x3 x4 x5 x6 (ix2 r h)
      = edge X W b (rowOf i (qOf r)) (nbr X b (rowOf i (qOf r)) (r.val / 64)) h := by
  unfold pointEmb
  rw [emb_apply, ← pick_eq H]
  unfold edge
  refine congrArg₂ HAdd.hAdd ?_ ?_
  · refine Finset.sum_congr rfl fun f _ => ?_
    rw [pos_eq H hX, H.h5]
  · refine Finset.sum_congr rfl fun k _ => Finset.sum_congr rfl fun p _ => ?_
    rw [scaled_eq H hX, H.h6]

end Point

variable (m : (ℓ : Loc nD τ sig) → Buf (Elt Ideal) ℓ) (c : Dev nD)

/-- The coordinates, the weights, the scale and the shift, as launched. -/
abbrev argX : FVec Ideal S2x512x14x3 .f32 := m ((c : Thread nD τ).loc main_arg0)
abbrev argW : FVec Ideal S128x3152 .f32 := m ((c : Thread nD τ).loc main_arg3)
abbrev argG : FVec Ideal S128 .f32 := m ((c : Thread nD τ).loc main_arg4)
abbrev argB : FVec Ideal S128 .f32 := m ((c : Thread nD τ).loc main_arg5)

theorem blocks (t : Fin cfg0.N) : Blocks (argX m c) (argW m c) (grid0.coords t) (bOf t) (iblk m c 0 t) (iblk m c 1 t)
    (iblk m c 2 t) (iblk m c 3 t) (iblk m c 4 t) (iblk m c 5 t) (iblk m c 6 t) where
  h0 k l := (blk0 m c t k l).trans (Host.V_v2 m c _ k l)
  h1 k l a := (blk1 m c t k l a).trans (Host.V_v0 m c _ k l a)
  h2 l f := (blk2 m c t l f).trans (congrFun (Host.V_v31 m c) _)
  h3 a p := (blk3 m c t a p).trans (congrFun (Host.V_cst m c) _)
  h4 q f := (blk4 m c t q f).trans (congrFun (Host.V_v33 m c) _)
  h5 f h := (blk5 m c t f h).trans (Host.V_v35 m c f h)
  h6 k p h := (blk6 m c t k p h).trans (Host.V_v39 m c k p h)

/-- A point's first output block. -/
theorem out_emb (hX : RealX (argX m c)) (t : Fin cfg0.N) (k : Fin 30) (q : Fin 64) (h : Fin 128) :
    (outsAt0 m c t).1 (ix4 0 k q h)
      = lnK (edge (argX m c) (argW m c) (bOf t) (rowOf (grid0.coords t) q) (nbr (argX m c) (bOf t) (rowOf (grid0.coords t) q) k.val))
          (argG m c (ix1 h)) (argB m c (ix1 h)) h := by
  rw [outs_emb, normed_apply, blk7, blk8, Host.V_v40, Host.V_v41]
  have e : ∀ h, _ = _ := pointEmb_eq (blocks m c t) hX ⟨k.val * 64 + q.val, by omega⟩
  simp only [e]
  have hq : qOf ⟨k.val * 64 + q.val, by omega⟩ = q := Fin.ext (by simp only [qOf]; omega)
  have hk : (k.val * 64 + q.val) / 64 = k.val := by omega
  rw [hq, hk]

/-- A point's second output block. -/
theorem out_idx (t : Fin cfg0.N) (q : Fin 64) (k : Fin 30) :
    (outsAt0 m c t).2 (ix3 0 q k) = BitVec.ofNat 32 (nbr (argX m c) (bOf t) (rowOf (grid0.coords t) q) k.val).val := by
  rw [outs_idx, idxBlock_apply, row_dist (blocks m c t)]
  rfl

end Cert.Proof.KA

end
-- ==== Proof.KernelRun.lean ====
/- The kernel's run: what the two results hold, index by index, in terms of the arguments. -/
module

public import proofs.«01_k».proof.Proof.KernelPoint
public import proofs.«01_k».proof.Proof.Gen.KernelIdeal.Frame
public import Idealize.ShloMosaic.Lib.StableHlo.Run
public import Idealize.ShloMosaic.Lib.Pointwise

@[expose] public section

set_option maxRecDepth 16384

noncomputable section

namespace Cert.Proof.KA

open Idealize.ShloMosaic Idealize.ShloMosaic.TcCoe Idealize.ShloMosaic.Tactic Idealize.SL.Sem
open Cert.KernelIdeal Cert.KernelIdeal.Gen Cert.Proof.KB Cert.Proof.Model

/-- The embedding of residue `i`'s `k`-th neighbour, normalised. -/
def outE (X : FVec Ideal S2x512x14x3 .f32) (W : FVec Ideal S128x3152 .f32) (g bb : FVec Ideal S128 .f32) (b : Fin 2) (i : Fin 512)
    (k : Fin 30) (h : Fin 128) : EReal :=
  lnK (edge X W b i (nbr X b i k.val)) (g (ix1 h)) (bb (ix1 h)) h

/-- The index of residue `i`'s `k`-th neighbour. -/
def outI (X : FVec Ideal S2x512x14x3 .f32) (b : Fin 2) (i : Fin 512) (k : Fin 30) : BitVec 32 :=
  BitVec.ofNat 32 (nbr X b i k.val).val

variable (m : (ℓ : Loc nD τ sig) → Buf (Elt Ideal) ℓ) (c : Dev nD)

theorem row_eq (t : Fin cfg0.N) (q : Fin 64) : rowOf (grid0.coords t) q = ⟨64 * (t.val % 8) + q.val, by omega⟩ :=
  Fin.ext (rowOf_val t q)

/-- The embeddings' array, as the pipeline leaves it. -/
theorem arr_emb (hX : RealX (argX m c)) : (dats m 0 c).arrAt 9 (cfgs 0).N
    = (fun j => outE (argX m c) (argW m c) (argG m c) (argB m c) (j 0) (j 2) (j 1) (j 3) : FVec Ideal S2x30x512x128 .f32) := by
  refine (dats m 0 c).arrAt_eq_of_covers 9 _ (by decide +kernel) fun t hf y => ?_
  blk_simp
  rw [after0_9]
  obtain ⟨y0, y1, y2, y3, rfl⟩ : ∃ (a : Fin 1) (k : Fin 30) (q : Fin 64) (h : Fin 128), y = ix4 a k q h :=
    ⟨y 0, y 1, y 2, y 3, by funext a; fin_cases a <;> rfl⟩
  obtain rfl : y0 = 0 := Subsingleton.elim _ _
  rw [out_emb m c hX, row_eq]
  have e : (win0_9.blk t).view.emb (ix4 0 y1 y2 y3) = ix4 (bOf t) y1 ⟨64 * (t.val % 8) + y2.val, by omega⟩ y3 := by
    blk_ext [idx t, bOf]
  rw [e]
  rfl

/-- The neighbours' array, as the pipeline leaves it. -/
theorem arr_idx : (dats m 0 c).arrAt 10 (cfgs 0).N
    = (fun j => outI (argX m c) (j 0) (j 1) (j 2) : S2x512x30.Idx → BitVec 32) := by
  refine (dats m 0 c).arrAt_eq_of_covers 10 _ (by decide +kernel) fun t hf y => ?_
  blk_simp
  rw [after0_10]
  obtain ⟨y0, y1, y2, rfl⟩ : ∃ (a : Fin 1) (q : Fin 64) (k : Fin 30), y = ix3 a q k :=
    ⟨y 0, y 1, y 2, by funext a; fin_cases a <;> rfl⟩
  obtain rfl : y0 = 0 := Subsingleton.elim _ _
  rw [out_idx m c, row_eq]
  have e : (win0_10.blk t).view.emb (ix3 0 y1 y2) = ix3 (bOf t) ⟨64 * (t.val % 8) + y1.val, by omega⟩ y2 := by
    blk_ext [idx t, bOf]
  rw [e]
  rfl

/-- The transpose after the kernel. -/
theorem tail_emb (hX : RealX (argX m c)) : Pipeline.afterTail₀ cfgs (dats m) 0 (V0 m) [hostOps1] c main_v42_0
    = (fun j => outE (argX m c) (argW m c) (argG m c) (argB m c) (j 0) (j 1) (j 2) (j 3) : FVec Ideal S2x512x30x128 .f32) := by
  unfold Pipeline.afterTail₀
  show StableHlo.after hostOps1 _ (Proc.devRef .tc main_v42_0) = _
  after_results
  have e := Pipeline.withArrays_arr (cfgs 0).spec (by decide +kernel) c (V0 m c) (fun w => (dats m 0 c).arrAt w (cfgs 0).N) 9
  refine (congrArg (fun x : FVec Ideal S2x30x512x128 .f32 =>
    transpose S2x512x30x128 [0, 2, 1, 3] x transposes_S2x30x512x128_S2x512x30x128_0_2_1_3) (e.trans (arr_emb m c hX))).trans ?_
  funext j
  obtain ⟨b, i, k, h, rfl⟩ : ∃ (b : Fin 2) (i : Fin 512) (k : Fin 30) (h : Fin 128), j = ix4 b i k h :=
    ⟨j 0, j 1, j 2, j 3, by funext a; fin_cases a <;> rfl⟩
  pointwise []

/-- Every run of the kernel's program ends with these results and the arguments unchanged. -/
theorem run (ρ) (hX : ∀ c, RealX (argX m c)) :
    θ_run defs (onTc (τ := τ) (main (F := Ideal))) ⟨m, fun _ => 0, ρ⟩ (fun r => ∀ c : Dev nD,
      r.2.mem ((c.tc : Thread nD τ).loc main_v42_0)
          = (fun j => outE (argX m c) (argW m c) (argG m c) (argB m c) (j 0) (j 1) (j 2) (j 3) : FVec Ideal S2x512x30x128 .f32)
        ∧ r.2.mem ((c.tc : Thread nD τ).loc main_v42_1)
          = (fun j => outI (argX m c) (j 0) (j 1) (j 2) : S2x512x30.Idx → BitVec 32)) := by
  refine (θ_run defs _ _).mono (fun r h c => ?_) (run_main m ρ)
  refine ⟨((h c).2 main_v42_0 (by decide +kernel)).trans (tail_emb m c (hX c)), ((h c).1 10).trans (arr_idx m c)⟩

end Cert.Proof.KA

end
-- ==== Proof.RefChoice.lean ====
/- The reference's choice of neighbours, and its two gathers, read at an index. -/
module

public import proofs.«01_k».proof.Proof.Gen.ReferenceIdeal.Read
public import proofs.«01_k».proof.Proof.Model
public import Idealize.ShloMosaic.Lib.Pointwise

@[expose] public section

set_option maxRecDepth 16384

noncomputable section

namespace Cert.Proof.Ref

open Idealize.ShloMosaic Idealize.ShloMosaic.TcCoe Idealize.ShloMosaic.Tactic Idealize.SL.Sem
open Cert.ReferenceIdeal Cert.ReferenceIdeal.Gen Cert.ReferenceIdeal.Read
open Cert.Proof.KB Cert.Proof.Model

variable (x0 : (⟨S2x512x14x3, .f32⟩ : BufTy).Contents (Elt Ideal)) (x1 : (⟨S2x512, .f32⟩ : BufTy).Contents (Elt Ideal))

/-- A distance of real points is real. -/
theorem dist3_real {a0 b0 a1 b1 a2 b2 : EReal} (h0 : ∃ v : ℝ, a0 = v) (k0 : ∃ v : ℝ, b0 = v) (h1 : ∃ v : ℝ, a1 = v)
    (k1 : ∃ v : ℝ, b1 = v) (h2 : ∃ v : ℝ, a2 = v) (k2 : ∃ v : ℝ, b2 = v) :
    ∃ v : ℝ, dist3 a0 b0 a1 b1 a2 b2 = (v : EReal) := by
  obtain ⟨a0, rfl⟩ := h0; obtain ⟨a1, rfl⟩ := h1; obtain ⟨a2, rfl⟩ := h2
  obtain ⟨b0, rfl⟩ := k0; obtain ⟨b1, rfl⟩ := k1; obtain ⟨b2, rfl⟩ := k2
  obtain ⟨r, hr, e⟩ := Consts.eps
  have e' : epsW = (r : EReal) := e
  refine ⟨Real.sqrt ((a0 - b0) * (a0 - b0) + (a1 - b1) * (a1 - b1) + (a2 - b2) * (a2 - b2) + r), ?_⟩
  unfold dist3
  rw [e', ← EReal.coe_sub, ← EReal.coe_sub, ← EReal.coe_sub, ← EReal.coe_mul, ← EReal.coe_mul, ← EReal.coe_mul,
    ← EReal.coe_add, ← EReal.coe_add, ← EReal.coe_add]
  exact if_neg (not_lt.mpr (add_nonneg (add_nonneg (add_nonneg (mul_self_nonneg _) (mul_self_nonneg _)) (mul_self_nonneg _)) hr.le))

/-- A squared difference does not see the order. -/
theorem sub_sq_comm {a b : EReal} (ha : ∃ v : ℝ, a = v) (hb : ∃ v : ℝ, b = v) : (a - b) * (a - b) = (b - a) * (b - a) := by
  obtain ⟨a, rfl⟩ := ha; obtain ⟨b, rfl⟩ := hb
  rw [← EReal.coe_sub, ← EReal.coe_sub, ← EReal.coe_mul, ← EReal.coe_mul]
  congr 1
  ring

/-- What the reference orders by: the distance, negated. -/
theorem v27_eq (hX : RealX x0) (h1 : ∀ j, x1 j = ((1 : ℝ) : EReal)) (b : Fin 2) (i j : Fin 512) :
    val_main_v27 (F := Ideal) x0 x1 (ix3 b i j) = -drow x0 b i j := by
  have e17 : val_main_v17 (F := Ideal) x0 x1 (ix3 b i j) = drow x0 b i j := by
    pointwise [val_main_v17, val_main_v16, val_main_v15, val_main_v14, val_main_v13, val_main_v12, val_main_v11, val_main_v10,
      val_main_v9, val_main_v8, val_main_v7, val_main_v6, val_main_v5, val_main_v4, val_main_v3, val_main_v2, val_main_v1,
      val_main_v0, val_main_cst, val_main_cst_0]
    rw [h1, h1, Fin.sum_univ_three, sub_sq_comm (hX _ _ _ _) (hX _ _ _ _), sub_sq_comm (hX b j 1 1) (hX _ _ _ _),
      sub_sq_comm (hX b j 1 2) (hX _ _ _ _)]
    rw [EReal.coe_one, one_mul, one_mul]
    rfl
  have e6 : val_main_v6 (F := Ideal) x1 (ix3 b i j) = ((1 : ℝ) : EReal) := by
    pointwise [val_main_v6, val_main_v5, val_main_v4, val_main_v3, val_main_v2]
    rw [h1, h1]
    simp
  pointwise [val_main_v27, val_main_v26, val_main_v25, val_main_v24, val_main_v23, val_main_v22, val_main_v21, val_main_v20,
    val_main_v19, val_main_cst_1, val_main_cst_2, val_main_cst_3]
  have z : (1 : EReal) - ((1 : ℝ) : EReal) = 0 := by
    rw [← EReal.coe_one, ← EReal.coe_sub, sub_self, EReal.coe_zero]
  rw [e17, e6, z, mul_zero, zero_mul, add_zero]

/-- A row's `k`-th position in descending order. -/
theorem sort_index (x : FVec Ideal S2x512x512 .f32) (b : Fin 2) (i k : Fin 512) :
    (Host.sort2 S2x512x512 2 (fun l r : EReal × BitVec 32 => FloatOps.cmpfTotal (F := Ideal) (φ := .f32) .gt l.1 r.1)
        x (iotaInDim S2x512x512 32 2)).2 (ix3 b i k)
      = BitVec.ofNat 32 (sortedFrom (fun p q : Fin 512 =>
          FloatOps.cmpfTotal (F := Ideal) (φ := .f32) .gt (x (ix3 b i p)) (x (ix3 b i q)) == 1#1) k).val := by
  have ea : ∀ p : Fin 512, (ix3 b i k : S2x512x512.Idx).along 2 p = ix3 b i p := fun p => by
    funext a
    fin_cases a <;> rfl
  have ef : (fun p q : Fin 512 => FloatOps.cmpfTotal (F := Ideal) (φ := .f32) .gt (x (ix3 b i p)) (x (ix3 b i q)) == 1#1)
      = fun p q : Fin 512 => FloatOps.cmpfTotal (F := Ideal) (φ := .f32) .gt (x ((ix3 b i k : S2x512x512.Idx).along 2 p))
        (x ((ix3 b i k : S2x512x512.Idx).along 2 q)) == 1#1 := by
    funext p q
    rw [ea, ea]
  have key : ∀ π : Fin 512, iotaInDim S2x512x512 32 2 ((ix3 b i k : S2x512x512.Idx).along 2 π) = BitVec.ofNat 32 π.val := fun π => by
    rw [show (ix3 b i k : S2x512x512.Idx).along 2 π = ix3 b i π from ea π]
    rfl
  rw [ef]
  unfold Host.sort2
  rw [dif_pos (show 2 < S2x512x512.rank by decide)]
  exact key _

/-- The reference's index is its row's sorted position. -/
theorem top_index (b : Fin 2) (i : Fin 512) (k : Fin 30) :
    val_main_indices (F := Ideal) x0 x1 (ix3 b i k)
      = (Host.sort2 S2x512x512 2 (fun l r : EReal × BitVec 32 => FloatOps.cmpfTotal (F := Ideal) (φ := .f32) .gt l.1 r.1)
        (val_main_v27 (F := Ideal) x0 x1) (iotaInDim S2x512x512 32 2)).2 (ix3 b i ⟨k.val, by omega⟩) := by
  unfold val_main_indices
  generalize val_main_v27 (F := Ideal) x0 x1 = x
  unfold Host.topK extractStridedSlice
  refine congrArg (Host.sort2 S2x512x512 2 (fun l r : EReal × BitVec 32 => FloatOps.cmpfTotal (F := Ideal) (φ := .f32) .gt l.1 r.1)
      x (iotaInDim S2x512x512 32 2)).2 ?_
  funext a
  fin_cases a <;> exact Fin.ext (Nat.zero_add _)

/-- The reference's neighbours. -/
theorem indices_eq (hX : RealX x0) (h1 : ∀ j, x1 j = ((1 : ℝ) : EReal)) (b : Fin 2) (i : Fin 512) (k : Fin 30) :
    val_main_indices (F := Ideal) x0 x1 (ix3 b i k) = BitVec.ofNat 32 (nbr x0 b i k.val).val := by
  have hlt : ∀ l, drow x0 b i l < ⊤ := fun l => by
    obtain ⟨v, hv⟩ := dist3_real (hX b i 1 0) (hX b l 1 0) (hX b i 1 1) (hX b l 1 1) (hX b i 1 2) (hX b l 1 2)
    show dist3 _ _ _ _ _ _ < ⊤
    rw [hv]
    exact EReal.coe_lt_top v
  unfold nbr
  rw [← Select.sortedFrom_eq_sel (drow x0 b i) hlt 30 (by omega) k]
  have hk : k.val < 512 := by omega
  have e := (top_index x0 x1 b i k).trans (sort_index (val_main_v27 (F := Ideal) x0 x1) b i ⟨k.val, hk⟩)
  rw [e]
  have hc : (fun p q : Fin 512 => FloatOps.cmpfTotal (F := Ideal) (φ := .f32) .gt (val_main_v27 (F := Ideal) x0 x1 (ix3 b i p))
        (val_main_v27 (F := Ideal) x0 x1 (ix3 b i q)) == 1#1) = fun p q => decide (drow x0 b i p < drow x0 b i q) := by
    funext p q
    rw [v27_eq x0 x1 hX h1, v27_eq x0 x1 hX h1]
    show (BitVec.ofBool (decide (-drow x0 b i q < -drow x0 b i p)) == 1#1) = _
    rw [decide_eq_decide.mpr EReal.neg_lt_neg_iff]
    cases decide (drow x0 b i p < drow x0 b i q) <;> rfl
  rw [hc]
  rfl

/-- A column's word read back as a number. -/
theorem word_col (j : Fin 512) : min (BitVec.ofNat 32 j.val).toInt.toNat (512 - 1) = j.val := by
  rw [KB.toInt_small _ (by omega)]
  omega

/-- The gather of the neighbours' atoms. -/
theorem gather_atoms (idx : IVec S2x512x30x1 32) (b : Fin 2) (i : Fin 512) (k : Fin 30) (a : Fin 14) (c : Fin 3) (j : Fin 512)
    (h : idx (ix4 b i k 0) = BitVec.ofNat 32 j.val) :
    Host.gather gather_S2x512x14x3_S2x512x30x1_S2x512x30x14x3_34_1_0_0_1_3_11143 x0 idx (ix5 b i k a c) = x0 (ix4 b j a c) := by
  unfold Host.gather
  refine congrArg x0 ?_
  funext ax
  refine Fin.ext ?_
  show GatherDims.start _ _ _ ax + GatherDims.batchCoord _ _ ax + GatherDims.offCoord _ _ ax = _
  unfold GatherDims.start GatherDims.batchCoord GatherDims.offCoord
  fin_cases ax
  · rw [dif_neg (by decide), dif_pos (by decide), dif_neg (by decide)]
    simp only [Nat.zero_add, Nat.add_zero]
    rfl
  · rw [dif_pos (by decide), dif_neg (by decide), dif_neg (by decide)]
    have e : GatherDims.siIdx gather_S2x512x14x3_S2x512x30x1_S2x512x30x14x3_34_1_0_0_1_3_11143 (ix5 b i k a c) ⟨0, by decide⟩ = ix4 b i k 0 := by
      funext z
      fin_cases z <;> rfl
    refine (congrArg (fun z => min (idx z).toInt.toNat (512 - 1)) e).trans ?_
    simp only []
    rw [h]
    exact word_col j
  · rw [dif_neg (by decide), dif_neg (by decide), dif_pos (by decide)]
    simp only [Nat.zero_add, Nat.add_zero]
    rfl
  · rw [dif_neg (by decide), dif_neg (by decide), dif_pos (by decide)]
    simp only [Nat.zero_add, Nat.add_zero]
    rfl

end Cert.Proof.Ref

end
-- ==== Proof.RefFeat.lean ====
/- The reference's features and embedding before normalisation, read at an index. -/
module

public import proofs.«01_k».proof.Proof.RefChoice

@[expose] public section

set_option maxRecDepth 16384

noncomputable section

namespace Cert.Proof.Ref

open Idealize.ShloMosaic Idealize.ShloMosaic.TcCoe Idealize.ShloMosaic.Tactic Idealize.SL.Sem
open Cert.ReferenceIdeal Cert.ReferenceIdeal.Gen Cert.ReferenceIdeal.Read
open Cert.Proof.KB Cert.Proof.Model

variable (x0 : (⟨S2x512x14x3, .f32⟩ : BufTy).Contents (Elt Ideal)) (x1 : (⟨S2x512, .f32⟩ : BufTy).Contents (Elt Ideal))
  (x2 : (⟨S2x512x14, .f32⟩ : BufTy).Contents (Elt Ideal)) (x3 : (⟨S128x3152, .f32⟩ : BufTy).Contents (Elt Ideal))

/-- The gather of the neighbours' atom mask. -/
theorem gather_mask (idx : IVec S2x512x30x1 32) (b : Fin 2) (i : Fin 512) (k : Fin 30) (a : Fin 14) (j : Fin 512)
    (h : idx (ix4 b i k 0) = BitVec.ofNat 32 j.val) :
    Host.gather gather_S2x512x14_S2x512x30x1_S2x512x30x14_3_1_0_0_1_3_1114 x2 idx (ix4 b i k a) = x2 (ix3 b j a) := by
  unfold Host.gather
  refine congrArg x2 ?_
  funext ax
  refine Fin.ext ?_
  show GatherDims.start _ _ _ ax + GatherDims.batchCoord _ _ ax + GatherDims.offCoord _ _ ax = _
  unfold GatherDims.start GatherDims.batchCoord GatherDims.offCoord
  fin_cases ax
  · rw [dif_neg (by decide), dif_pos (by decide), dif_neg (by decide)]
    simp only [Nat.zero_add, Nat.add_zero]
    rfl
  · rw [dif_pos (by decide), dif_neg (by decide), dif_neg (by decide)]
    have e : GatherDims.siIdx gather_S2x512x14_S2x512x30x1_S2x512x30x14_3_1_0_0_1_3_1114 (ix4 b i k a) ⟨0, by decide⟩ = ix4 b i k 0 := by
      funext z
      fin_cases z <;> rfl
    refine (congrArg (fun z => min (idx z).toInt.toNat (512 - 1)) e).trans ?_
    simp only []
    rw [h]
    exact word_col j
  · rw [dif_neg (by decide), dif_neg (by decide), dif_pos (by decide)]
    simp only [Nat.zero_add, Nat.add_zero]
    rfl

/-- A column's word is not negative. -/
theorem word_nonneg (j : Fin 512) (y : BitVec 32) :
    Scalar.select (IntOp.cmpi .slt (BitVec.ofNat 32 j.val) 0#32) y (BitVec.ofNat 32 j.val) = BitVec.ofNat 32 j.val := by
  have h : IntOp.cmpi .slt (BitVec.ofNat 32 j.val) 0#32 = 0#1 := by
    show BitVec.ofBool (BitVec.slt _ _) = _
    rw [BitVec.slt, KB.toInt_small _ (by omega), decide_eq_false (by simp)]
    rfl
  rw [h]
  rfl

/-- A small word as a number. -/
theorem sitofp_small (n : Nat) (h : n < 1024) :
    FloatOps.sitofp (F := Ideal) .f32 (BitVec.ofNat 32 n) = ((n : ℝ) : EReal) := by
  show (((BitVec.ofNat 32 n).toInt : ℝ) : EReal) = _
  rw [KB.toInt_small n h]
  norm_num

/-- A quotient of real numbers. -/
theorem div_coe (x y : ℝ) (hy : y ≠ 0) : Ideal.div (x : EReal) (y : EReal) = ((x / y : ℝ) : EReal) := by
  unfold Ideal.div
  rw [if_neg (fun h => hy (EReal.coe_eq_zero.mp h)), ← EReal.coe_inv, ← EReal.coe_mul, div_eq_mul_inv]

/-- A frequency is a real number. -/
theorem freq_real (f : Fin 8) : ∃ v : ℝ, Host.freqE f = (v : EReal) := by
  obtain ⟨s, hs⟩ := Consts.step
  unfold Host.freqE
  rw [hs, Consts.two, sitofp_small _ (by omega), ← EReal.coe_mul, ← EReal.coe_mul]
  exact ⟨_, rfl⟩

/-- The kernel's radial function is the reference's: with `u` the distance over the width, the square is multiplied out. -/
theorem rbf_eq {d : EReal} (hd : ∃ v : ℝ, d = v) (m : Fin 16) :
    Ideal.exp (-(Ideal.div (d - ((4 * m.val / 3 : ℝ) : EReal)) (Ideal.ofBits .f32 0x3FA00000#32)
        * Ideal.div (d - ((4 * m.val / 3 : ℝ) : EReal)) (Ideal.ofBits .f32 0x3FA00000#32)))
      = rbfK (d * (Named.named Cert.KernelIdeal.κ "inv_sigma" 0x3F4CCCCD#32 : Ideal .f32)) m := by
  obtain ⟨d, rfl⟩ := hd
  unfold rbfK
  rw [Consts.width, Consts.invSigma, Consts.lin_eq, Consts.sq_eq, ← EReal.coe_sub, div_coe _ _ (by norm_num), ← EReal.coe_mul,
    ← EReal.coe_neg, ← EReal.coe_zero, ← EReal.coe_mul, ← EReal.coe_mul, ← EReal.coe_mul, ← EReal.coe_sub, ← EReal.coe_sub,
    ← EReal.coe_add]
  congr 2
  ring

/-- The kernel's positional feature is the reference's, by the subtraction formulas. -/
theorem pos_eq (i j : Fin 512) (f : Fin 16) :
    (if f.val < 8 then Ideal.cos (Host.angleE j ⟨f.val % 8, by omega⟩ - Host.angleE i ⟨f.val % 8, by omega⟩)
      else Ideal.sin (Host.angleE j ⟨f.val % 8, by omega⟩ - Host.angleE i ⟨f.val % 8, by omega⟩)) = pos i j f := by
  obtain ⟨x, hx⟩ := angle_real j ⟨f.val % 8, by omega⟩
  obtain ⟨y, hy⟩ := angle_real i ⟨f.val % 8, by omega⟩
  have hc : ∀ v : ℝ, Ideal.cos (v : EReal) = ((Real.cos v : ℝ) : EReal) := fun _ => rfl
  have hs : ∀ v : ℝ, Ideal.sin (v : EReal) = ((Real.sin v : ℝ) : EReal) := fun _ => rfl
  unfold pos
  rw [hx, hy, ← EReal.coe_sub, hc, hs, hc, hs, hc, hs, ← EReal.coe_neg]
  split
  · rw [← EReal.coe_mul, ← EReal.coe_mul, ← EReal.coe_add, Real.cos_sub]
  · rw [← EReal.coe_mul, ← EReal.coe_mul, ← EReal.coe_add, Real.sin_sub]
    congr 1
    ring

section Point

variable (hX : RealX x0) (h1 : ∀ j, x1 j = ((1 : ℝ) : EReal)) (h2 : ∀ j, x2 j = ((1 : ℝ) : EReal)) (b : Fin 2) (i : Fin 512) (k : Fin 30)

include hX h1

theorem v33_eq : val_main_v33 (F := Ideal) x0 x1 (ix4 b i k 0) = BitVec.ofNat 32 (nbr x0 b i k.val).val := by
  pointwise [val_main_v33, val_main_v32, val_main_v31, val_main_v30, val_main_v29, val_main_v28, val_main_c, val_main_c_4]
  rw [indices_eq x0 x1 hX h1]
  exact word_nonneg _ _

theorem v40_eq : val_main_v40 (F := Ideal) x0 x1 (ix4 b i k 0) = BitVec.ofNat 32 (nbr x0 b i k.val).val := by
  pointwise [val_main_v40, val_main_v39, val_main_v38, val_main_v37, val_main_v36, val_main_v35, val_main_c_5, val_main_c_6]
  rw [indices_eq x0 x1 hX h1]
  exact word_nonneg _ _

theorem v51_eq (p q : Fin 14) : val_main_v51 (F := Ideal) x0 x1 (ix5 b i k p q)
    = dist3 (x0 (ix4 b i p 0)) (x0 (ix4 b (nbr x0 b i k.val) q 0)) (x0 (ix4 b i p 1)) (x0 (ix4 b (nbr x0 b i k.val) q 1))
        (x0 (ix4 b i p 2)) (x0 (ix4 b (nbr x0 b i k.val) q 2)) := by
  have e : ∀ c : Fin 3, val_main_v47 (F := Ideal) x0 x1 (idx_main_v48 (ix5 b i k p q) c)
      = (x0 (ix4 b i p c) - x0 (ix4 b (nbr x0 b i k.val) q c)) * (x0 (ix4 b i p c) - x0 (ix4 b (nbr x0 b i k.val) q c)) := fun c => by
    have ei : idx_main_v48 (ix5 b i k p q) c = ix6 b i k p q c := by
      funext z
      fin_cases z <;> rfl
    rw [ei]
    pointwise [val_main_v47, val_main_v46, val_main_v45, val_main_v44, val_main_v43, val_main_v42, val_main_v34]
    rw [gather_atoms x0 _ b i k q c _ (v33_eq x0 x1 hX h1 b i k)]
  rw [val_main_v51_apply, val_main_v50_apply, val_main_v48_apply, val_main_v49_apply]
  simp only [e]
  rw [Fin.sum_univ_three]
  have z : val_main_cst_7 (F := Ideal) (Shape.Idx.first h_S_) = 0 := Consts.zero
  rw [z, zero_add]
  rfl

include h2

theorem v57_eq (p q : Fin 14) : val_main_v57 (F := Ideal) x0 x1 x2 (ix6 b i k p q 0) = 1 := by
  pointwise [val_main_v57, val_main_v56, val_main_v55, val_main_v54, val_main_v53, val_main_v52, val_main_v41]
  rw [gather_mask x2 _ b i k q _ (v40_eq x0 x1 hX h1 b i k), h2, h2, EReal.coe_one, mul_one]

end Point

/-- The radial functions' centres. -/
theorem v58_eq (m : Fin 16) : val_main_v58 (F := Ideal) (ix1 m) = ((4 * m.val / 3 : ℝ) : EReal) := by
  pointwise [val_main_v58, val_main_cst_9, val_main_cst_10, val_main_call0_v0, val_main_call0_v1, val_main_call0_v2,
    val_main_call0_v3, val_main_call0_v4, val_main_call0_v5, val_main_call0_v6, val_main_call0_v7, val_main_call0_v8,
    val_main_call0_v9, val_main_call0_v10, val_main_call0_v11, val_main_call0_v12, val_main_call0_v13, val_main_call0_v14,
    val_main_call0_v15, val_main_call0_v16, val_main_call0_cst, val_main_call0_cst_0, val_main_call0_cst_1]
  have c0 : id (constant (F := Ideal) S_ .f32 0#32) ix0 = ((0 : ℝ) : EReal) := Consts.zero
  have c20 : id (constant (F := Ideal) S_ .f32 1101004800#32) ix0 = ((20 : ℝ) : EReal) := Consts.twenty
  rw [c0, c20, sitofp_small _ (by omega), Consts.fifteen, div_coe _ _ (by norm_num), ← EReal.coe_one, ← EReal.coe_sub,
    ← EReal.coe_mul, ← EReal.coe_mul, ← EReal.coe_add]
  split
  · congr 1
    ring
  · have h : (m.val : ℝ) = 15 := by
      have h' : m.val = 15 := by omega
      rw [h']
      norm_num
    rw [h]
    congr 1
    norm_num

/-- The difference of two positions, as an angle. -/
theorem v89_eq (hX : RealX x0) (h1 : ∀ j, x1 j = ((1 : ℝ) : EReal)) (b : Fin 2) (i : Fin 512) (k : Fin 30) (f : Fin 8) :
    val_main_v89 (F := Ideal) x0 x1 (ix4 b i k f) = Host.angleE (nbr x0 b i k.val) f - Host.angleE i f := by
  pointwise [val_main_v89, val_main_v88, val_main_v87, val_main_v86, val_main_v85, val_main_v84, val_main_v83, val_main_v82,
    val_main_v81, val_main_v80, val_main_v79, val_main_v78, val_main_v77, val_main_v76, val_main_v75, val_main_v74, val_main_v73,
    val_main_v72, val_main_cst_12, val_main_cst_13, val_main_cst_14]
  rw [indices_eq x0 x1 hX h1]
  show (_ - _) * Host.freqE f = _
  obtain ⟨v, hv⟩ := freq_real f
  unfold Host.angleE
  rw [hv, sitofp_small _ (by omega), sitofp_small _ (by omega), ← EReal.coe_sub, ← EReal.coe_mul, ← EReal.coe_mul, ← EReal.coe_mul,
    ← EReal.coe_sub]
  congr 1
  ring

/-- A sum over a feature row: the positional features, then the radial functions pair by pair. -/
theorem sum_features (g : Fin 3152 → EReal) :
    ∑ x, g x = (∑ f : Fin 16, g ⟨f.val, by omega⟩)
      + ∑ k : Fin 16, ∑ p : Fin 196, g ⟨16 + (p.val * 16 + k.val), by omega⟩ := by
  have e1 : ∑ x, g x = (∑ f : Fin 16, g ⟨f.val, by omega⟩) + ∑ f : Fin 3136, g ⟨16 + f.val, by omega⟩ :=
    Fin.sum_univ_add (a := 16) (b := 3136) g
  rw [e1, Finset.sum_comm, ← Finset.sum_product' (f := fun (p : Fin 196) (k : Fin 16) => g ⟨16 + (p.val * 16 + k.val), by omega⟩)]
  refine congrArg₂ HAdd.hAdd rfl ?_
  refine (Equiv.sum_comp (finProdFinEquiv (m := 196) (n := 16)) (fun f : Fin 3136 => g ⟨16 + f.val, by omega⟩)).symm.trans ?_
  refine Finset.sum_congr rfl fun z _ => congrArg g (Fin.ext ?_)
  show 16 + (z.2.val + 16 * z.1.val) = 16 + (z.1.val * 16 + z.2.val)
  ring

section Embedding

variable (hX : RealX x0) (h1 : ∀ j, x1 j = ((1 : ℝ) : EReal)) (h2 : ∀ j, x2 j = ((1 : ℝ) : EReal)) (b : Fin 2) (i : Fin 512) (k : Fin 30)

include hX h1 h2

theorem v71_eq (p : Fin 196) (m : Fin 16) (f : Fin 3136) (hf : f.val = p.val * 16 + m.val) :
    val_main_v71 (F := Ideal) x0 x1 x2 (ix4 b i k f) = rbfK (pairU x0 b i (nbr x0 b i k.val) p) m := by
  have e : val_main_v71 (F := Ideal) x0 x1 x2 (ix4 b i k f)
      = val_main_v70 (F := Ideal) x0 x1 x2 (ix6 b i k ⟨p.val / 14, by omega⟩ ⟨p.val % 14, by omega⟩ m) := by
    pointwise [val_main_v71]
    refine congrArg _ ?_
    have a1 : f.val / 224 = p.val / 14 := by omega
    have a2 : f.val / 16 % 14 = p.val % 14 := by omega
    have a3 : f.val % 16 = m.val := by omega
    simp only [a1, a2, a3]
  rw [e]
  pointwise [val_main_v70, val_main_v69, val_main_v68, val_main_v67, val_main_v66, val_main_v65, val_main_v64, val_main_v63,
    val_main_v62, val_main_v61, val_main_v60, val_main_v59, val_main_cst_11]
  rw [v57_eq x0 x1 x2 hX h1 h2, mul_one, v51_eq x0 x1 hX h1, v58_eq, rbf_eq (dist3_real (hX _ _ _ _) (hX _ _ _ _) (hX _ _ _ _)
    (hX _ _ _ _) (hX _ _ _ _) (hX _ _ _ _))]
  rfl

theorem v93_pos (f : Fin 16) : val_main_v93 (F := Ideal) x0 x1 x2 (ix4 b i k ⟨f.val, by omega⟩) = pos i (nbr x0 b i k.val) f := by
  rw [← pos_eq]
  pointwise [val_main_v93, val_main_v92, val_main_v91, val_main_v90]
  split
  · next h =>
    rw [v89_eq x0 x1 hX h1]
    simp only [Nat.mod_eq_of_lt h]
  · next h =>
    have hm : f.val - 8 = f.val % 8 := by omega
    rw [v89_eq x0 x1 hX h1]
    simp only [hm]

theorem v93_rbf (p : Fin 196) (m : Fin 16) : val_main_v93 (F := Ideal) x0 x1 x2 (ix4 b i k ⟨16 + (p.val * 16 + m.val), by omega⟩)
    = rbfK (pairU x0 b i (nbr x0 b i k.val) p) m := by
  pointwise [val_main_v93, val_main_v92, val_main_v91, val_main_v90]
  exact v71_eq x0 x1 x2 hX h1 h2 b i k p m _ rfl

/-- The embedding before normalisation. -/
theorem v95_eq (h : Fin 128) : val_main_v95 (F := Ideal) x0 x1 x2 x3 (ix4 b i k h) = edge x0 x3 b i (nbr x0 b i k.val) h := by
  have e : val_main_v95 (F := Ideal) x0 x1 x2 x3 (ix4 b i k h)
      = ∑ x, val_main_v93 (F := Ideal) x0 x1 x2 (ix4 b i k x) * x3 (ix2 h x) := by
    pointwise [val_main_v95, val_main_v94]
  rw [e, sum_features]
  unfold edge
  refine congrArg₂ HAdd.hAdd (Finset.sum_congr rfl fun f _ => ?_) (Finset.sum_congr rfl fun m _ => Finset.sum_congr rfl fun p _ => ?_)
  · rw [v93_pos x0 x1 x2 hX h1 h2]
  · rw [v93_rbf x0 x1 x2 hX h1 h2]

end Embedding

/-- A square is not negative, an infinity's included. -/
theorem square_nonneg (x : EReal) : 0 ≤ x * x := by
  induction x with
  | bot => simp
  | top => simp
  | coe v => rw [← EReal.coe_mul]; exact EReal.coe_nonneg.mpr (mul_self_nonneg v)

/-- Multiplying by the reciprocal root is dividing by the root, for a sum of squares. -/
theorem rsqrt_eq (x S : EReal) (hS : 0 ≤ S) :
    x * Ideal.rsqrt (Ideal.div S ((128 : ℝ) : EReal) + Ideal.ofBits .f32 0x3727C5AC#32)
      = Ideal.div x (Ideal.sqrt (Ideal.div S ((128 : ℝ) : EReal) + Ideal.ofBits .f32 0x3727C5AC#32)) := by
  obtain ⟨r, hr, e⟩ := Consts.eps'
  rw [e]
  induction S with
  | bot => exact absurd hS (by simp)
  | top =>
    have h : Ideal.div ⊤ ((128 : ℝ) : EReal) + (r : EReal) = ⊤ := by
      unfold Ideal.div
      rw [if_neg (by simp), ← EReal.coe_inv, EReal.top_mul_coe_of_pos (by norm_num), EReal.top_add_coe]
    rw [h]
    show x * 0 = Ideal.div x ⊤
    unfold Ideal.div
    rw [if_neg (by simp), EReal.inv_top]
  | coe s =>
    have hs : 0 ≤ s := EReal.coe_nonneg.mp hS
    have hp : 0 < s / 128 + r := by positivity
    rw [div_coe _ _ (by norm_num), ← EReal.coe_add]
    have e1 : Ideal.rsqrt ((s / 128 + r : ℝ) : EReal) = (((Real.sqrt (s / 128 + r))⁻¹ : ℝ) : EReal) :=
      (if_neg (not_lt.mpr hp.le)).trans (if_neg hp.ne')
    have e2 : Ideal.sqrt ((s / 128 + r : ℝ) : EReal) = ((Real.sqrt (s / 128 + r) : ℝ) : EReal) := if_neg (not_lt.mpr hp.le)
    have hq : Real.sqrt (s / 128 + r) ≠ 0 := (Real.sqrt_pos.mpr hp).ne'
    rw [e1, e2, EReal.coe_inv]
    unfold Ideal.div
    rw [if_neg (fun h => hq (EReal.coe_eq_zero.mp h))]

/-- The reference's first result. -/
theorem v113_eq (x4 x5 : (⟨S128, .f32⟩ : BufTy).Contents (Elt Ideal)) (hX : RealX x0) (h1 : ∀ j, x1 j = ((1 : ℝ) : EReal))
    (h2 : ∀ j, x2 j = ((1 : ℝ) : EReal)) (b : Fin 2) (i : Fin 512) (k : Fin 30) (h : Fin 128) :
    val_main_v113 (F := Ideal) x0 x1 x2 x3 x4 x5 (ix4 b i k h)
      = lnK (edge x0 x3 b i (nbr x0 b i k.val)) (x4 (ix1 h)) (x5 (ix1 h)) h := by
  have e := v95_eq x0 x1 x2 x3 hX h1 h2 b i k
  pointwise [val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_cst_15, val_main_cst_16, val_main_c_17, val_main_cst_18, val_main_call1_v0, val_main_call1_v1, val_main_call1_v2, val_main_call1_v3, val_main_call1_v4, val_main_call1_v5, val_main_call1_v6, val_main_call1_v7, val_main_call1_v8, val_main_call1_v9, val_main_call1_v10, val_main_call1_v11, val_main_call1_v12, val_main_call1_v13, val_main_call1_cst, val_main_call1_cst_0, val_main_call1_cst_1, val_main_call1_cst_2, val_main_call1_cst_3, val_main_call1_cst_4, val_main_call1_call0_v0, val_main_call1_call0_v1]
  simp only [e]
  have n : Ideal.ofBits .f32 1124073472#32 - FloatOps.sitofp (F := Ideal) .f32 0#32 = Ideal.ofBits .f32 1124073472#32 := by
    have z : FloatOps.sitofp (F := Ideal) .f32 0#32 = ((0 : ℝ) : EReal) := by
      rw [sitofp_small 0 (by omega), Nat.cast_zero]
    rw [z, EReal.coe_zero, sub_zero]
  have p : (0 : EReal) < Ideal.ofBits .f32 1124073472#32 := by
    rw [Consts.hundred28]
    exact EReal.coe_pos.mpr (by norm_num)
  rw [n, if_pos p]
  unfold lnK
  rw [Consts.hundred28, rsqrt_eq _ _ (Finset.sum_nonneg fun x _ => square_nonneg _)]

end Cert.Proof.Ref

end
-- ==== Proof.Equation.lean ====
/- The value claim: on plain inputs the kernel's two results are the reference's. -/
module

public import proofs.«01_k».proof.Defs
public import proofs.«01_k».proof.Proof.KernelRun
public import proofs.«01_k».proof.Proof.RefFeat
public import proofs.«01_k».proof.Proof.Gen.ReferenceIdeal.Run

@[expose] public section

set_option maxRecDepth 16384

noncomputable section

namespace Cert.Proof

open Idealize.ShloMosaic Idealize.ShloMosaic.TcCoe Idealize.SL.Sem
open Cert.Proof.Model Cert.Proof.KA

/-- The precondition's side conditions. -/
theorem plain_facts : Cert.Pre_plain_inputs.Facts :=
  ⟨by decide, by decide, by decide⟩

/-- A word made from a truth that is one. -/
theorem truth_of_one {p : Bool} (h : BitVec.ofBool p = 1#1) : p = true := by
  cases p
  · exact absurd h (by decide)
  · rfl

/-- A value whose absolute value is below infinity is a real number. -/
theorem real_of_lt (x : EReal) (h : max x (-x) < ⊤) : ∃ v : ℝ, x = (v : EReal) := by
  induction x with
  | bot => exact absurd h (by simp)
  | top => exact absurd h (by simp)
  | coe v => exact ⟨v, rfl⟩

section Plain

variable [Cert.Pre_plain_inputs.Facts] (X : FVec Ideal Cert.KernelIdeal.S2x512x14x3 .f32) (M : FVec Ideal Cert.KernelIdeal.S2x512 .f32)
  (A : FVec Ideal Cert.KernelIdeal.S2x512x14 .f32) (W : FVec Ideal Cert.KernelIdeal.S128x3152 .f32) (g b : FVec Ideal Cert.KernelIdeal.S128 .f32)

/-- Coordinates below infinity in absolute value are real numbers. -/
theorem plain_coords (h : (Cert.Pre_plain_inputs.fn (F := Ideal) X M A W g b).1 = fun _ => 1#1) : RealX X := fun b i a k => by
  have e : BitVec.ofBool (decide (max (X (ix4 b i a k)) (-X (ix4 b i a k)) < Ideal.ofBits .f32 0x7F800000#32)) = 1#1 :=
    congrFun h (ix4 b i a k)
  have e' := of_decide_eq_true (truth_of_one e)
  rw [Consts.infinity] at e'
  exact real_of_lt _ e'

theorem plain_mask (h : (Cert.Pre_plain_inputs.fn (F := Ideal) X M A W g b).2.1 = fun _ => 1#1) (j) : M j = ((1 : ℝ) : EReal) := by
  have e : BitVec.ofBool (decide (M j = Ideal.ofBits .f32 0x3F800000#32)) = 1#1 := congrFun h j
  exact (of_decide_eq_true (truth_of_one e)).trans Consts.one

theorem plain_atoms (h : (Cert.Pre_plain_inputs.fn (F := Ideal) X M A W g b).2.2 = fun _ => 1#1) (j) : A j = ((1 : ℝ) : EReal) := by
  have e : BitVec.ofBool (decide (A j = Ideal.ofBits .f32 0x3F800000#32)) = 1#1 := congrFun h j
  exact (of_decide_eq_true (truth_of_one e)).trans Consts.one

/-- The reference's first result, as an array. -/
theorem ref_emb (hX : RealX X) (hM : ∀ j, M j = ((1 : ℝ) : EReal)) (hA : ∀ j, A j = ((1 : ℝ) : EReal)) {X' M' A' W' g' b'}
    (eX : X' = X) (eM : M' = M) (eA : A' = A) (eW : W' = W) (eg : g' = g) (eb : b' = b) :
    Cert.ReferenceIdeal.Read.val_main_v113 (F := Ideal) X' M' A' W' g' b' = fun j => outE X W g b (j 0) (j 1) (j 2) (j 3) := by
  subst eX eM eA eW eg eb
  funext j
  obtain ⟨p, i, k, h, rfl⟩ : ∃ (p : Fin 2) (i : Fin 512) (k : Fin 30) (h : Fin 128), j = ix4 p i k h :=
    ⟨j 0, j 1, j 2, j 3, by funext a; fin_cases a <;> rfl⟩
  exact Ref.v113_eq _ _ _ _ _ _ hX hM hA p i k h

/-- The reference's second result, as an array. -/
theorem ref_idx (hX : RealX X) (hM : ∀ j, M j = ((1 : ℝ) : EReal)) {X' M'} (eX : X' = X) (eM : M' = M) :
    Cert.ReferenceIdeal.Read.val_main_indices (F := Ideal) X' M' = fun j => outI X (j 0) (j 1) (j 2) := by
  subst eX eM
  funext j
  obtain ⟨p, i, k, rfl⟩ : ∃ (p : Fin 2) (i : Fin 512) (k : Fin 30), j = ix3 p i k :=
    ⟨j 0, j 1, j 2, by funext a; fin_cases a <;> rfl⟩
  exact Ref.indices_eq _ _ hX hM p i k

end Plain

/-- On plain inputs both results are the reference's. -/
theorem algebraic : Cert.algebraic_KernelIdeal_ReferenceIdeal_pre_plain_inputs (hPre_plain_inputs := plain_facts) := by
  intro m g m' g' hpre hargs
  letI := plain_facts
  have hX : ∀ c, RealX (argX m c) := fun c => plain_coords _ _ _ _ _ _ (hpre c).1
  refine ⟨fun c => (fun j => outE (argX m c) (argW m c) (argG m c) (argB m c) (j 0) (j 1) (j 2) (j 3)),
    fun c => (fun j => outI (argX m c) (j 0) (j 1) (j 2)), ?_, ?_⟩
  · refine (θ_run _ _ _).mono (fun r h c => ?_) (θ_run_and (KA.run m g hX) (Cert.KernelIdeal.Gen.unchanged (F := Ideal) m g))
    exact ⟨(h.1 c).1, (h.1 c).2, h.2 c⟩
  · refine (θ_run _ _ _).mono (fun r h c => ?_) (Cert.ReferenceIdeal.Value.run (F := Ideal) m' g')
    obtain ⟨a0, a1, a2, a3, a4, a5⟩ := hargs c
    have hM := plain_mask _ _ _ _ _ _ (hpre c).2.1
    have hA := plain_atoms _ _ _ _ _ _ (hpre c).2.2
    refine ⟨?_, ?_, (h c).2.2⟩
    · refine ((h c).1.trans (Cert.ReferenceIdeal.Read.val_main_v113_eq _)).trans ?_
      exact ref_emb _ _ _ _ _ _ (hX c) hM hA a0 a1 a2 a3 a4 a5
    · refine ((h c).2.1.trans (Cert.ReferenceIdeal.Read.val_main_indices_eq _)).trans ?_
      exact ref_idx _ _ (hX c) hM a0 a1

end Cert.Proof

end
-- ==== Proof.lean ====
/- The certificate: the programs' facts, the frames, the named constants, and the value claim. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, plain_facts,
    fun m ρ _ => Cert.Kernel.Gen.frame m ρ,
    fun m ρ _ => Cert.KernelIdeal.Gen.frame m ρ,
    fun m ρ _ => Cert.KernelIdeal.Gen.frame m ρ,
    reference_frame, fun m ρ _ => reference_frame m ρ trivial, preserves, algebraic⟩

end Cert.Proof

end
